-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x3x512x512 : Shape := ⟨4, ![16, 3, 512, 512]⟩
abbrev S32 : Shape := ⟨1, ![32]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S16x3x512x512 .f32) (main_arg1 : FVec F S32 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  main_v8
-- ==== Kernel.lean ====
abbrev S16x3x512x512 : Shape := ⟨4, ![16, 3, 512, 512]⟩
abbrev S32 : Shape := ⟨1, ![32]⟩
abbrev S24576x512 : Shape := ⟨2, ![24576, 512]⟩
abbrev S128 : Shape := ⟨1, ![128]⟩
abbrev S48x512 : Shape := ⟨2, ![48, 512]⟩
abbrev S_ : Shape := ⟨0, ![]⟩
abbrev S16 : Shape := ⟨1, ![16]⟩
abbrev S1x16 : Shape := ⟨2, ![1, 16]⟩

abbrev nBuf : Table → Nat
  | .hbm => 5
  | .local .scVector .vmem => 7
  | _ => 0

abbrev bufTy : (tb : Table) → Fin (nBuf tb) → BufTy
  | .hbm, ⟨0, _⟩ => ⟨S16x3x512x512, .f32⟩
  | .hbm, ⟨1, _⟩ => ⟨S32, .f32⟩
  | .hbm, ⟨2, _⟩ => ⟨S24576x512, .f32⟩
  | .hbm, ⟨3, _⟩ => ⟨S24576x512, .f32⟩
  | .hbm, ⟨4, _⟩ => ⟨S16x3x512x512, .f32⟩
  | .local .scVector .vmem, ⟨0, _⟩ => ⟨S128, .f32⟩
  | .local .scVector .vmem, ⟨1, _⟩ => ⟨S128, .f32⟩
  | .local .scVector .vmem, ⟨2, _⟩ => ⟨S128, .f32⟩
  | .local .scVector .vmem, ⟨3, _⟩ => ⟨S48x512, .f32⟩
  | .local .scVector .vmem, ⟨4, _⟩ => ⟨S48x512, .f32⟩
  | .local .scVector .vmem, ⟨5, _⟩ => ⟨S48x512, .f32⟩
  | .local .scVector .vmem, ⟨6, _⟩ => ⟨S48x512, .f32⟩
  | _, _ => ⟨S16x3x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v5 : IVec S16 32) : Prop :=
  (∀ a x, ((![v5] : Fin 1 → IVec S16 32) a x).toNat < S128.size a)
theorem k0_idx1_inb : ∀ (v5 : IVec S16 32) (k0_hw1 : k0_chk1 v5), ∀ a x, ((![v5] : Fin 1 → IVec S16 32) a x).toNat < S128.size a := fun v5 k0_hw1 => k0_hw1

def k0_chk2 (v10 : IVec S16 32) : Prop :=
  (∀ a x, ((![v10] : Fin 1 → IVec S16 32) a x).toNat < S128.size a)
theorem k0_idx2_inb : ∀ (v10 : IVec S16 32) (k0_hw2 : k0_chk2 v10), ∀ a x, ((![v10] : Fin 1 → IVec S16 32) a x).toNat < S128.size a := fun v10 k0_hw2 => k0_hw2

def k0_chk3 (v22 : IVec S16 32) : Prop :=
  (∀ a x, ((![v22] : Fin 1 → IVec S16 32) a x).toNat < S128.size a)
theorem k0_idx3_inb : ∀ (v22 : IVec S16 32) (k0_hw3 : k0_chk3 v22), ∀ a x, ((![v22] : Fin 1 → IVec S16 32) a x).toNat < S128.size a := fun v22 k0_hw3 => k0_hw3

def k0_chk4 (v27 : IVec S16 32) : Prop :=
  (∀ a x, ((![v27] : Fin 1 → IVec S16 32) a x).toNat < S128.size a)
theorem k0_idx4_inb : ∀ (v27 : IVec S16 32) (k0_hw4 : k0_chk4 v27), ∀ a x, ((![v27] : Fin 1 → IVec S16 32) a x).toNat < S128.size a := fun v27 k0_hw4 => k0_hw4
def k0_off1 (i : grid0.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c768_i32 : BitVec 32 := 768#32
  let v2 : BitVec 32 := Scalar.muli v1 c768_i32
  let v37 : BitVec 32 := Scalar.addi v2 c0_i32_5
  let c0_i32_6 : BitVec 32 := 0#32
  ![v37.toNat, 0]
def k0_off1_at (r : Fin 8) : BitVec 32 :=
  if r.val < 4 then
    if r.val < 2 then
      if r.val < 1 then
        0#32
      else
        48#32
    else
      if r.val < 3 then
        96#32
      else
        144#32
  else
    if r.val < 6 then
      if r.val < 5 then
        576#32
      else
        672#32
    else
      if r.val < 7 then
        624#32
      else
        720#32
@[reducible] def k0_t1_loop : Scf.Loop 32 :=
  let c0_i32_13 : BitVec 32 := 0#32
  let c1536_i32 : BitVec 32 := 1536#32
  let v46 : BitVec 32 := Scalar.addi c0_i32_13 c1536_i32
  let c1_i32_14 : BitVec 32 := 1#32
  ⟨c0_i32_13, v46, c1_i32_14⟩
def k0_off2 (k0_t1 : Fin k0_t1_loop.trips) : Fin 2 → Nat :=
  let c0_i32_66 : BitVec 32 := 0#32
  let c0_i32_13 : BitVec 32 := 0#32
  let c1_i32_14 : BitVec 32 := 1#32
  let arg16 : BitVec 32 := Scf.iv c0_i32_13 c1_i32_14 k0_t1
  let c16_i32_65 : BitVec 32 := 16#32
  let v90 : BitVec 32 := Scalar.muli arg16 c16_i32_65
  let v91 : BitVec 32 := Scalar.addi c0_i32_66 v90
  let c9_i32 : BitVec 32 := 9#32
  let v92 : BitVec 32 := Scalar.shrui v91 c9_i32
  let v94 : Index := Scalar.indexCast v92
  let c511_i32 : BitVec 32 := 511#32
  let v93 : BitVec 32 := Scalar.andi v91 c511_i32
  let v95 : Index := Scalar.indexCast v93
  ![v94.toNat, v95.toNat]

def k0_chk5 (v103 : IVec S16 32) : Prop :=
  (∀ a x, ((![v103] : Fin 1 → IVec S16 32) a x).toNat < S128.size a) ∧
  (∀ a x, ((![v103] : Fin 1 → IVec S16 32) a x).toNat < S128.size a)
theorem k0_idx5_inb : ∀ (v103 : IVec S16 32) (k0_hw5 : k0_chk5 v103), ∀ a x, ((![v103] : Fin 1 → IVec S16 32) a x).toNat < S128.size a := fun v103 k0_hw5 => k0_hw5.1
theorem k0_idx6_inb : ∀ (v103 : IVec S16 32) (k0_hw5 : k0_chk5 v103), ∀ a x, ((![v103] : Fin 1 → IVec S16 32) a x).toNat < S128.size a := fun v103 k0_hw5 => k0_hw5.2
def k0_off3 (k0_t1 : Fin k0_t1_loop.trips) : Fin 2 → Nat :=
  let c0_i32_66 : BitVec 32 := 0#32
  let c0_i32_13 : BitVec 32 := 0#32
  let c1_i32_14 : BitVec 32 := 1#32
  let arg16 : BitVec 32 := Scf.iv c0_i32_13 c1_i32_14 k0_t1
  let c16_i32_65 : BitVec 32 := 16#32
  let v90 : BitVec 32 := Scalar.muli arg16 c16_i32_65
  let v91 : BitVec 32 := Scalar.addi c0_i32_66 v90
  let c9_i32 : BitVec 32 := 9#32
  let v92 : BitVec 32 := Scalar.shrui v91 c9_i32
  let v108 : Index := Scalar.indexCast v92
  let c511_i32 : BitVec 32 := 511#32
  let v93 : BitVec 32 := Scalar.andi v91 c511_i32
  let v109 : Index := Scalar.indexCast v93
  ![v108.toNat, v109.toNat]
@[reducible] def k0_t2_loop : Scf.Loop 32 :=
  let c0_i32_24 : BitVec 32 := 0#32
  let c1536_i32_25 : BitVec 32 := 1536#32
  let v56 : BitVec 32 := Scalar.addi c0_i32_24 c1536_i32_25
  let c1_i32_26 : BitVec 32 := 1#32
  ⟨c0_i32_24, v56, c1_i32_26⟩
def k0_off4 (k0_t2 : Fin k0_t2_loop.trips) : Fin 2 → Nat :=
  let c0_i32_66 : BitVec 32 := 0#32
  let c0_i32_24 : BitVec 32 := 0#32
  let c1_i32_26 : BitVec 32 := 1#32
  let arg16 : BitVec 32 := Scf.iv c0_i32_24 c1_i32_26 k0_t2
  let c16_i32_65 : BitVec 32 := 16#32
  let v90 : BitVec 32 := Scalar.muli arg16 c16_i32_65
  let v91 : BitVec 32 := Scalar.addi c0_i32_66 v90
  let c9_i32 : BitVec 32 := 9#32
  let v92 : BitVec 32 := Scalar.shrui v91 c9_i32
  let v94 : Index := Scalar.indexCast v92
  let c511_i32 : BitVec 32 := 511#32
  let v93 : BitVec 32 := Scalar.andi v91 c511_i32
  let v95 : Index := Scalar.indexCast v93
  ![v94.toNat, v95.toNat]

def k0_chk6 (v103 : IVec S16 32) : Prop :=
  (∀ a x, ((![v103] : Fin 1 → IVec S16 32) a x).toNat < S128.size a) ∧
  (∀ a x, ((![v103] : Fin 1 → IVec S16 32) a x).toNat < S128.size a)
theorem k0_idx7_inb : ∀ (v103 : IVec S16 32) (k0_hw6 : k0_chk6 v103), ∀ a x, ((![v103] : Fin 1 → IVec S16 32) a x).toNat < S128.size a := fun v103 k0_hw6 => k0_hw6.1
theorem k0_idx8_inb : ∀ (v103 : IVec S16 32) (k0_hw6 : k0_chk6 v103), ∀ a x, ((![v103] : Fin 1 → IVec S16 32) a x).toNat < S128.size a := fun v103 k0_hw6 => k0_hw6.2
def k0_off5 (k0_t2 : Fin k0_t2_loop.trips) : Fin 2 → Nat :=
  let c0_i32_66 : BitVec 32 := 0#32
  let c0_i32_24 : BitVec 32 := 0#32
  let c1_i32_26 : BitVec 32 := 1#32
  let arg16 : BitVec 32 := Scf.iv c0_i32_24 c1_i32_26 k0_t2
  let c16_i32_65 : BitVec 32 := 16#32
  let v90 : BitVec 32 := Scalar.muli arg16 c16_i32_65
  let v91 : BitVec 32 := Scalar.addi c0_i32_66 v90
  let c9_i32 : BitVec 32 := 9#32
  let v92 : BitVec 32 := Scalar.shrui v91 c9_i32
  let v108 : Index := Scalar.indexCast v92
  let c511_i32 : BitVec 32 := 511#32
  let v93 : BitVec 32 := Scalar.andi v91 c511_i32
  let v109 : Index := Scalar.indexCast v93
  ![v108.toNat, v109.toNat]
@[reducible] def k0_t3_loop : Scf.Loop 32 :=
  let c1_i32_34 : BitVec 32 := 1#32
  let c6_i32 : BitVec 32 := 6#32
  let v63 : BitVec 32 := Scalar.addi c1_i32_34 c6_i32
  let c1_i32_35 : BitVec 32 := 1#32
  ⟨c1_i32_34, v63, c1_i32_35⟩
def k0_off6 (i : grid0.Coords) (k0_t3 : Fin k0_t3_loop.trips) (c0_i32_66 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c768_i32 : BitVec 32 := 768#32
  let v2 : BitVec 32 := Scalar.muli v1 c768_i32
  let c2_i32_65 : BitVec 32 := 2#32
  let c1_i32_34 : BitVec 32 := 1#32
  let c1_i32_35 : BitVec 32 := 1#32
  let arg16 : BitVec 32 := Scf.iv c1_i32_34 c1_i32_35 k0_t3
  let v90 : BitVec 32 := Scalar.muli c2_i32_65 arg16
  let v91 : BitVec 32 := Scalar.addi v90 c0_i32_66
  let c2_i32_67 : BitVec 32 := 2#32
  let v92 : BitVec 32 := Scalar.subi v91 c2_i32_67
  let c48_i32_68 : BitVec 32 := 48#32
  let v93 : BitVec 32 := Scalar.muli v92 c48_i32_68
  let v94 : BitVec 32 := Scalar.addi v2 v93
  let c0_i32_69 : BitVec 32 := 0#32
  ![v94.toNat, 0]
def k0_off7 (i : grid0.Coords) (k0_t3 : Fin k0_t3_loop.trips) (c0_i32_66 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c768_i32 : BitVec 32 := 768#32
  let v2 : BitVec 32 := Scalar.muli v1 c768_i32
  let c2_i32_65 : BitVec 32 := 2#32
  let c1_i32_34 : BitVec 32 := 1#32
  let c1_i32_35 : BitVec 32 := 1#32
  let arg16 : BitVec 32 := Scf.iv c1_i32_34 c1_i32_35 k0_t3
  let v90 : BitVec 32 := Scalar.muli c2_i32_65 arg16
  let v91 : BitVec 32 := Scalar.addi v90 c0_i32_66
  let c48_i32_71 : BitVec 32 := 48#32
  let v97 : BitVec 32 := Scalar.muli v91 c48_i32_71
  let v98 : BitVec 32 := Scalar.addi v2 v97
  let c0_i32_72 : BitVec 32 := 0#32
  ![v98.toNat, 0]
@[reducible] def k0_t4_loop : Scf.Loop 32 :=
  let c0_i32_74 : BitVec 32 := 0#32
  let c1536_i32_75 : BitVec 32 := 1536#32
  let v101 : BitVec 32 := Scalar.addi c0_i32_74 c1536_i32_75
  let c1_i32_76 : BitVec 32 := 1#32
  ⟨c0_i32_74, v101, c1_i32_76⟩
def k0_off8 (k0_t4 : Fin k0_t4_loop.trips) : Fin 2 → Nat :=
  let c0_i32_106 : BitVec 32 := 0#32
  let c0_i32_74 : BitVec 32 := 0#32
  let c1_i32_76 : BitVec 32 := 1#32
  let arg17 : BitVec 32 := Scf.iv c0_i32_74 c1_i32_76 k0_t4
  let c16_i32_105 : BitVec 32 := 16#32
  let v132 : BitVec 32 := Scalar.muli arg17 c16_i32_105
  let v133 : BitVec 32 := Scalar.addi c0_i32_106 v132
  let c9_i32 : BitVec 32 := 9#32
  let v134 : BitVec 32 := Scalar.shrui v133 c9_i32
  let v136 : Index := Scalar.indexCast v134
  let c511_i32 : BitVec 32 := 511#32
  let v135 : BitVec 32 := Scalar.andi v133 c511_i32
  let v137 : Index := Scalar.indexCast v135
  ![v136.toNat, v137.toNat]

def k0_chk7 (v145 : IVec S16 32) : Prop :=
  (∀ a x, ((![v145] : Fin 1 → IVec S16 32) a x).toNat < S128.size a) ∧
  (∀ a x, ((![v145] : Fin 1 → IVec S16 32) a x).toNat < S128.size a)
theorem k0_idx9_inb : ∀ (v145 : IVec S16 32) (k0_hw7 : k0_chk7 v145), ∀ a x, ((![v145] : Fin 1 → IVec S16 32) a x).toNat < S128.size a := fun v145 k0_hw7 => k0_hw7.1
theorem k0_idx10_inb : ∀ (v145 : IVec S16 32) (k0_hw7 : k0_chk7 v145), ∀ a x, ((![v145] : Fin 1 → IVec S16 32) a x).toNat < S128.size a := fun v145 k0_hw7 => k0_hw7.2
def k0_off9 (k0_t4 : Fin k0_t4_loop.trips) : Fin 2 → Nat :=
  let c0_i32_106 : BitVec 32 := 0#32
  let c0_i32_74 : BitVec 32 := 0#32
  let c1_i32_76 : BitVec 32 := 1#32
  let arg17 : BitVec 32 := Scf.iv c0_i32_74 c1_i32_76 k0_t4
  let c16_i32_105 : BitVec 32 := 16#32
  let v132 : BitVec 32 := Scalar.muli arg17 c16_i32_105
  let v133 : BitVec 32 := Scalar.addi c0_i32_106 v132
  let c9_i32 : BitVec 32 := 9#32
  let v134 : BitVec 32 := Scalar.shrui v133 c9_i32
  let v150 : Index := Scalar.indexCast v134
  let c511_i32 : BitVec 32 := 511#32
  let v135 : BitVec 32 := Scalar.andi v133 c511_i32
  let v151 : Index := Scalar.indexCast v135
  ![v150.toNat, v151.toNat]
def k0_off10 (i : grid0.Coords) (k0_t3 : Fin k0_t3_loop.trips) (c0_i32_66 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c768_i32 : BitVec 32 := 768#32
  let v2 : BitVec 32 := Scalar.muli v1 c768_i32
  let c2_i32_65 : BitVec 32 := 2#32
  let c1_i32_34 : BitVec 32 := 1#32
  let c1_i32_35 : BitVec 32 := 1#32
  let arg16 : BitVec 32 := Scf.iv c1_i32_34 c1_i32_35 k0_t3
  let v90 : BitVec 32 := Scalar.muli c2_i32_65 arg16
  let v91 : BitVec 32 := Scalar.addi v90 c0_i32_66
  let c2_i32_81 : BitVec 32 := 2#32
  let v106 : BitVec 32 := Scalar.addi v91 c2_i32_81
  let c48_i32_82 : BitVec 32 := 48#32
  let v107 : BitVec 32 := Scalar.muli v106 c48_i32_82
  let v108 : BitVec 32 := Scalar.addi v2 v107
  let c0_i32_83 : BitVec 32 := 0#32
  ![v108.toNat, 0]
@[reducible] def k0_t5_loop : Scf.Loop 32 :=
  let c0_i32_94 : BitVec 32 := 0#32
  let c1536_i32_95 : BitVec 32 := 1536#32
  let v122 : BitVec 32 := Scalar.addi c0_i32_94 c1536_i32_95
  let c1_i32_96 : BitVec 32 := 1#32
  ⟨c0_i32_94, v122, c1_i32_96⟩
def k0_off11 (k0_t5 : Fin k0_t5_loop.trips) : Fin 2 → Nat :=
  let c0_i32_106 : BitVec 32 := 0#32
  let c0_i32_94 : BitVec 32 := 0#32
  let c1_i32_96 : BitVec 32 := 1#32
  let arg17 : BitVec 32 := Scf.iv c0_i32_94 c1_i32_96 k0_t5
  let c16_i32_105 : BitVec 32 := 16#32
  let v132 : BitVec 32 := Scalar.muli arg17 c16_i32_105
  let v133 : BitVec 32 := Scalar.addi c0_i32_106 v132
  let c9_i32 : BitVec 32 := 9#32
  let v134 : BitVec 32 := Scalar.shrui v133 c9_i32
  let v136 : Index := Scalar.indexCast v134
  let c511_i32 : BitVec 32 := 511#32
  let v135 : BitVec 32 := Scalar.andi v133 c511_i32
  let v137 : Index := Scalar.indexCast v135
  ![v136.toNat, v137.toNat]

def k0_chk8 (v145 : IVec S16 32) : Prop :=
  (∀ a x, ((![v145] : Fin 1 → IVec S16 32) a x).toNat < S128.size a) ∧
  (∀ a x, ((![v145] : Fin 1 → IVec S16 32) a x).toNat < S128.size a)
theorem k0_idx11_inb : ∀ (v145 : IVec S16 32) (k0_hw8 : k0_chk8 v145), ∀ a x, ((![v145] : Fin 1 → IVec S16 32) a x).toNat < S128.size a := fun v145 k0_hw8 => k0_hw8.1
theorem k0_idx12_inb : ∀ (v145 : IVec S16 32) (k0_hw8 : k0_chk8 v145), ∀ a x, ((![v145] : Fin 1 → IVec S16 32) a x).toNat < S128.size a := fun v145 k0_hw8 => k0_hw8.2
def k0_off12 (k0_t5 : Fin k0_t5_loop.trips) : Fin 2 → Nat :=
  let c0_i32_106 : BitVec 32 := 0#32
  let c0_i32_94 : BitVec 32 := 0#32
  let c1_i32_96 : BitVec 32 := 1#32
  let arg17 : BitVec 32 := Scf.iv c0_i32_94 c1_i32_96 k0_t5
  let c16_i32_105 : BitVec 32 := 16#32
  let v132 : BitVec 32 := Scalar.muli arg17 c16_i32_105
  let v133 : BitVec 32 := Scalar.addi c0_i32_106 v132
  let c9_i32 : BitVec 32 := 9#32
  let v134 : BitVec 32 := Scalar.shrui v133 c9_i32
  let v150 : Index := Scalar.indexCast v134
  let c511_i32 : BitVec 32 := 511#32
  let v135 : BitVec 32 := Scalar.andi v133 c511_i32
  let v151 : Index := Scalar.indexCast v135
  ![v150.toNat, v151.toNat]
@[reducible] def k0_t6_loop : Scf.Loop 32 :=
  let c0_i32_41 : BitVec 32 := 0#32
  let c1536_i32_42 : BitVec 32 := 1536#32
  let v70 : BitVec 32 := Scalar.addi c0_i32_41 c1536_i32_42
  let c1_i32_43 : BitVec 32 := 1#32
  ⟨c0_i32_41, v70, c1_i32_43⟩
def k0_off13 (k0_t6 : Fin k0_t6_loop.trips) : Fin 2 → Nat :=
  let c0_i32_66 : BitVec 32 := 0#32
  let c0_i32_41 : BitVec 32 := 0#32
  let c1_i32_43 : BitVec 32 := 1#32
  let arg16 : BitVec 32 := Scf.iv c0_i32_41 c1_i32_43 k0_t6
  let c16_i32_65 : BitVec 32 := 16#32
  let v90 : BitVec 32 := Scalar.muli arg16 c16_i32_65
  let v91 : BitVec 32 := Scalar.addi c0_i32_66 v90
  let c9_i32 : BitVec 32 := 9#32
  let v92 : BitVec 32 := Scalar.shrui v91 c9_i32
  let v94 : Index := Scalar.indexCast v92
  let c511_i32 : BitVec 32 := 511#32
  let v93 : BitVec 32 := Scalar.andi v91 c511_i32
  let v95 : Index := Scalar.indexCast v93
  ![v94.toNat, v95.toNat]

def k0_chk9 (v103 : IVec S16 32) : Prop :=
  (∀ a x, ((![v103] : Fin 1 → IVec S16 32) a x).toNat < S128.size a) ∧
  (∀ a x, ((![v103] : Fin 1 → IVec S16 32) a x).toNat < S128.size a)
theorem k0_idx13_inb : ∀ (v103 : IVec S16 32) (k0_hw9 : k0_chk9 v103), ∀ a x, ((![v103] : Fin 1 → IVec S16 32) a x).toNat < S128.size a := fun v103 k0_hw9 => k0_hw9.1
theorem k0_idx14_inb : ∀ (v103 : IVec S16 32) (k0_hw9 : k0_chk9 v103), ∀ a x, ((![v103] : Fin 1 → IVec S16 32) a x).toNat < S128.size a := fun v103 k0_hw9 => k0_hw9.2
def k0_off14 (k0_t6 : Fin k0_t6_loop.trips) : Fin 2 → Nat :=
  let c0_i32_66 : BitVec 32 := 0#32
  let c0_i32_41 : BitVec 32 := 0#32
  let c1_i32_43 : BitVec 32 := 1#32
  let arg16 : BitVec 32 := Scf.iv c0_i32_41 c1_i32_43 k0_t6
  let c16_i32_65 : BitVec 32 := 16#32
  let v90 : BitVec 32 := Scalar.muli arg16 c16_i32_65
  let v91 : BitVec 32 := Scalar.addi c0_i32_66 v90
  let c9_i32 : BitVec 32 := 9#32
  let v92 : BitVec 32 := Scalar.shrui v91 c9_i32
  let v108 : Index := Scalar.indexCast v92
  let c511_i32 : BitVec 32 := 511#32
  let v93 : BitVec 32 := Scalar.andi v91 c511_i32
  let v109 : Index := Scalar.indexCast v93
  ![v108.toNat, v109.toNat]
@[reducible] def k0_t7_loop : Scf.Loop 32 :=
  let c0_i32_52 : BitVec 32 := 0#32
  let c1536_i32_53 : BitVec 32 := 1536#32
  let v80 : BitVec 32 := Scalar.addi c0_i32_52 c1536_i32_53
  let c1_i32_54 : BitVec 32 := 1#32
  ⟨c0_i32_52, v80, c1_i32_54⟩
def k0_off15 (k0_t7 : Fin k0_t7_loop.trips) : Fin 2 → Nat :=
  let c0_i32_66 : BitVec 32 := 0#32
  let c0_i32_52 : BitVec 32 := 0#32
  let c1_i32_54 : BitVec 32 := 1#32
  let arg16 : BitVec 32 := Scf.iv c0_i32_52 c1_i32_54 k0_t7
  let c16_i32_65 : BitVec 32 := 16#32
  let v90 : BitVec 32 := Scalar.muli arg16 c16_i32_65
  let v91 : BitVec 32 := Scalar.addi c0_i32_66 v90
  let c9_i32 : BitVec 32 := 9#32
  let v92 : BitVec 32 := Scalar.shrui v91 c9_i32
  let v94 : Index := Scalar.indexCast v92
  let c511_i32 : BitVec 32 := 511#32
  let v93 : BitVec 32 := Scalar.andi v91 c511_i32
  let v95 : Index := Scalar.indexCast v93
  ![v94.toNat, v95.toNat]

def k0_chk10 (v103 : IVec S16 32) : Prop :=
  (∀ a x, ((![v103] : Fin 1 → IVec S16 32) a x).toNat < S128.size a) ∧
  (∀ a x, ((![v103] : Fin 1 → IVec S16 32) a x).toNat < S128.size a)
theorem k0_idx15_inb : ∀ (v103 : IVec S16 32) (k0_hw10 : k0_chk10 v103), ∀ a x, ((![v103] : Fin 1 → IVec S16 32) a x).toNat < S128.size a := fun v103 k0_hw10 => k0_hw10.1
theorem k0_idx16_inb : ∀ (v103 : IVec S16 32) (k0_hw10 : k0_chk10 v103), ∀ a x, ((![v103] : Fin 1 → IVec S16 32) a x).toNat < S128.size a := fun v103 k0_hw10 => k0_hw10.2
def k0_off16 (k0_t7 : Fin k0_t7_loop.trips) : Fin 2 → Nat :=
  let c0_i32_66 : BitVec 32 := 0#32
  let c0_i32_52 : BitVec 32 := 0#32
  let c1_i32_54 : BitVec 32 := 1#32
  let arg16 : BitVec 32 := Scf.iv c0_i32_52 c1_i32_54 k0_t7
  let c16_i32_65 : BitVec 32 := 16#32
  let v90 : BitVec 32 := Scalar.muli arg16 c16_i32_65
  let v91 : BitVec 32 := Scalar.addi c0_i32_66 v90
  let c9_i32 : BitVec 32 := 9#32
  let v92 : BitVec 32 := Scalar.shrui v91 c9_i32
  let v108 : Index := Scalar.indexCast v92
  let c511_i32 : BitVec 32 := 511#32
  let v93 : BitVec 32 := Scalar.andi v91 c511_i32
  let v109 : Index := Scalar.indexCast v93
  ![v108.toNat, v109.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x3x512x512 : Shape := ⟨4, ![16, 3, 512, 512]⟩
abbrev S32 : Shape := ⟨1, ![32]⟩
abbrev S_ : Shape := ⟨0, ![]⟩
abbrev S16x3x512x512x1 : Shape := ⟨5, ![16, 3, 512, 512, 1]⟩
abbrev S1 : Shape := ⟨1, ![1]⟩
abbrev S1x1x1x1x1 : Shape := ⟨5, ![1, 1, 1, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S32, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S16x3x512x512, .f32⟩
  | .hbm, ⟨6, _⟩ => ⟨S16x3x512x512, .f32⟩
  | .hbm, ⟨7, _⟩ => ⟨S_, .f32⟩
  | .hbm, ⟨8, _⟩ => ⟨S16x3x512x512, .f32⟩
  | .hbm, ⟨9, _⟩ => ⟨S16x3x512x512, .f32⟩
  | .hbm, ⟨10, _⟩ => ⟨S_, .f32⟩
  | .hbm, ⟨11, _⟩ => ⟨S16x3x512x512, .f32⟩
  | .hbm, ⟨12, _⟩ => ⟨S16x3x512x512, .f32⟩
  | .hbm, ⟨13, _⟩ => ⟨S16x3x512x512, .f32⟩
  | .hbm, ⟨14, _⟩ => ⟨S16x3x512x512, .i32⟩
  | .hbm, ⟨15, _⟩ => ⟨S_, .f32⟩
  | .hbm, ⟨16, _⟩ => ⟨S16x3x512x512, .f32⟩
  | .hbm, ⟨17, _⟩ => ⟨S16x3x512x512, .f32⟩
  | .hbm, ⟨18, _⟩ => ⟨S16x3x512x512, .f32⟩
  | .hbm, ⟨19, _⟩ => ⟨S16x3x512x512, .f32⟩
  | .hbm, ⟨20, _⟩ => ⟨S_, .i32⟩
  | .hbm, ⟨21, _⟩ => ⟨S16x3x512x512, .i32⟩
  | .hbm, ⟨22, _⟩ => ⟨S16x3x512x512, .i1⟩
  | .hbm, ⟨23, _⟩ => ⟨S_, .i32⟩
  | .hbm, ⟨24, _⟩ => ⟨S16x3x512x512, .i32⟩
  | .hbm, ⟨25, _⟩ => ⟨S16x3x512x512, .i32⟩
  | .hbm, ⟨26, _⟩ => ⟨S16x3x512x512, .i32⟩
  | .hbm, ⟨27, _⟩ => ⟨S16x3x512x512x1, .i32⟩
  | .hbm, ⟨28, _⟩ => ⟨S1, .i32⟩
  | .hbm, ⟨29, _⟩ => ⟨S_, .i32⟩
  | .hbm, ⟨30, _⟩ => ⟨S16x3x512x512x1, .i32⟩
  | .hbm, ⟨31, _⟩ => ⟨S16x3x512x512x1, .i1⟩
  | .hbm, ⟨32, _⟩ => ⟨S1x1x1x1x1, .i32⟩
  | .hbm, ⟨33, _⟩ => ⟨S16x3x512x512x1, .i32⟩
  | .hbm, ⟨34, _⟩ => ⟨S16x3x512x512x1, .i1⟩
  | .hbm, ⟨35, _⟩ => ⟨S16x3x512x512x1, .i1⟩
  | .hbm, ⟨36, _⟩ => ⟨S_, .i1⟩
  | .hbm, ⟨37, _⟩ => ⟨S16x3x512x512, .i1⟩
  | .hbm, ⟨38, _⟩ => ⟨S16x3x512x512, .f32⟩
  | .hbm, ⟨39, _⟩ => ⟨S_, .f32⟩
  | .hbm, ⟨40, _⟩ => ⟨S16x3x512x512, .f32⟩
  | .hbm, ⟨41, _⟩ => ⟨S16x3x512x512, .f32⟩
  | .hbm, ⟨42, _⟩ => ⟨S_, .f32⟩
  | .hbm, ⟨43, _⟩ => ⟨S16x3x512x512, .f32⟩
  | .hbm, ⟨44, _⟩ => ⟨S16x3x512x512, .f32⟩
  | .hbm, ⟨45, _⟩ => ⟨S16x3x512x512, .f32⟩
  | .hbm, ⟨46, _⟩ => ⟨S_, .i32⟩
  | .hbm, ⟨47, _⟩ => ⟨S16x3x512x512, .i32⟩
  | .hbm, ⟨48, _⟩ => ⟨S16x3x512x512, .i32⟩
  | .hbm, ⟨49, _⟩ => ⟨S_, .i32⟩
  | .hbm, ⟨50, _⟩ => ⟨S16x3x512x512, .i32⟩
  | .hbm, ⟨51, _⟩ => ⟨S16x3x512x512, .i1⟩
  | .hbm, ⟨52, _⟩ => ⟨S_, .i32⟩
  | .hbm, ⟨53, _⟩ => ⟨S16x3x512x512, .i32⟩
  | .hbm, ⟨54, _⟩ => ⟨S16x3x512x512, .i32⟩
  | .hbm, ⟨55, _⟩ => ⟨S16x3x512x512, .i32⟩
  | .hbm, ⟨56, _⟩ => ⟨S16x3x512x512x1, .i32⟩
  | .hbm, ⟨57, _⟩ => ⟨S1, .i32⟩
  | .hbm, ⟨58, _⟩ => ⟨S_, .i32⟩
  | .hbm, ⟨59, _⟩ => ⟨S16x3x512x512x1, .i32⟩
  | .hbm, ⟨60, _⟩ => ⟨S16x3x512x512x1, .i1⟩
  | .hbm, ⟨61, _⟩ => ⟨S1x1x1x1x1, .i32⟩
  | .hbm, ⟨62, _⟩ => ⟨S16x3x512x512x1, .i32⟩
  | .hbm, ⟨63, _⟩ => ⟨S16x3x512x512x1, .i1⟩
  | .hbm, ⟨64, _⟩ => ⟨S16x3x512x512x1, .i1⟩
  | .hbm, ⟨65, _⟩ => ⟨S_, .i1⟩
  | .hbm, ⟨66, _⟩ => ⟨S16x3x512x512, .i1⟩
  | .hbm, ⟨67, _⟩ => ⟨S16x3x512x512, .f32⟩
  | .hbm, ⟨68, _⟩ => ⟨S_, .f32⟩
  | .hbm, ⟨69, _⟩ => ⟨S16x3x512x512, .f32⟩
  | .hbm, ⟨70, _⟩ => ⟨S16x3x512x512, .f32⟩
  | .hbm, ⟨71, _⟩ => ⟨S16x3x512x512, .f32⟩
  | .hbm, ⟨72, _⟩ => ⟨S16x3x512x512, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v9 : Ref sig .tc := ⟨.hbm, 41, rfl⟩
abbrev main_cst_3 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_c : Ref sig .tc := ⟨.hbm, 46, rfl⟩
abbrev main_v13 : Ref sig .tc := ⟨.hbm, 47, rfl⟩
abbrev main_v14 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_cst : Ref sig .tc := ⟨.hbm, 68, rfl⟩
abbrev main_call2_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩

abbrev nD : Nat := 1
abbrev τ : Topo := Topo.v7x

variable {F : FTy → Type} [FloatOps F]
-- ==== Proof.Setup.lean ====
/-
  The launch as the proof sees it: the program's configuration, the resource algebra (the launch's handshakes
  beside the copies' counters), and the arithmetic of one element — the segment an element falls in and the line
  of that segment evaluated there, for any float values.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.Pwl

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

/-! ## The program's configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and not a kernel's own, and nothing is shared with a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

/-- The assertions of the proof. -/
abbrev MM (F : FTy → Type) : Type := MT nD τ sig (HIx 1) (Elt F) ℕ UU ℕ

/-- The handshakes' part of the algebra: the left factor. -/
abbrev EH : Emb UH (MM F) := embL

/-! ## One element -/

variable [FloatOps F]

/-- The segment of `x`: `31·x` truncated to a word, held between 0 and 30. -/
def seg (x : F .f32) : BitVec 32 :=
  IntOp.minsi 30#32 (IntOp.maxsi 0#32 (FloatOps.fptosi 32 (FloatOps.mulf x (Scalar.ofBits .f32 0x41F80000#32))))

/-- Held between 0 and 30, a word's signed value is the integers' own minimum and maximum. -/
theorem clip_toInt (w : BitVec 32) : (IntOp.minsi 30#32 (IntOp.maxsi 0#32 w)).toInt = min 30 (max 0 w.toInt) := by
  have h0 : (0#32 : BitVec 32).toInt = 0 := by decide
  have h30 : (30#32 : BitVec 32).toInt = 30 := by decide
  unfold IntOp.minsi IntOp.maxsi BitVec.slt
  simp only [decide_eq_true_eq]
  split_ifs <;> simp_all <;> omega

theorem seg_toInt (x : F .f32) :
    (seg x).toInt = min 30 (max 0 (FloatOps.fptosi 32 (FloatOps.mulf x (Scalar.ofBits .f32 0x41F80000#32)) : BitVec 32).toInt) :=
  clip_toInt _

theorem seg_toNat (x : F .f32) : ((seg x).toNat : ℤ) = (seg x).toInt := by
  have h := seg_toInt x
  rw [BitVec.toInt_eq_toNat_cond] at h ⊢
  split_ifs at h ⊢ <;> omega

theorem seg_lt (x : F .f32) : (seg x).toNat < 31 := by
  have h := seg_toInt x; have h' := seg_toNat x; omega

/-- Position `n` of a 128-word table. -/
abbrev at128 (n : ℕ) (h : n < 128) : S128.Idx := fun a => ⟨n, by fin_cases a; exact h⟩

/-- The line of `x`'s segment at `x`: the segment's intercept plus its slope times `x`, from the two tables. -/
def lineOf (cs ss : S128.Idx → F .f32) (x : F .f32) : F .f32 :=
  FloatOps.addf (cs (at128 (seg x).toNat ((seg_lt x).trans (by decide))))
    (FloatOps.mulf (ss (at128 (seg x).toNat ((seg_lt x).trans (by decide)))) x)

end Cert.Proof.Pwl

end
-- ==== Proof.Block.lean ====
/-
  What one block computes. The kernel's six inner loops all run over a 48 × 512 block, sixteen lanes a trip: load
  sixteen elements, find their segments, gather the segments' intercepts and slopes from the two tables, and store
  the lines' values at the same place of the out block. The trip is stated once over any two blocks and tables
  (`trip`), the printed trips are it, and the loop's invariant says the first `16·k` places of the out block, in
  row-major order, hold the lines' values of the in block.
-/
module

public import proofs.«01_k».proof.Proof.Setup
public import Idealize.ShloMosaic.Lib.Pipeline.Value

@[expose] public section

noncomputable section

namespace Cert.Proof.Pwl

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- A task's thread, by its grid coordinates: the core and the subcore. -/
abbrev thr (d : Dev nD) (i : grid0.Coords) : Thread nD τ := V d ((i 0).castLE hcore0) ((i 1).castLE hsub0)

/-- A 48 × 512 block in a task's memory, and a 128-word table there. -/
abbrev Blk : Type := Memref sig .scVector .vmem S48x512 .f32
abbrev Tbl : Type := Memref sig .scVector .vmem S128 .f32

/-! ## The trip, once -/

/-- One trip over the in block `src`, the out block `dst`, the intercepts `ct` and the slopes `st`. -/
def trip (i : grid0.Coords) (src dst : Blk) (ct st : Tbl) :
    Fin k0_t1_loop.trips → Unit → Prog (TpuEff nD τ sig (Elt F) Λ₀ (.scVector ((i 0).castLE hcore0) ((i 1).castLE hsub0))) Unit :=
  fun k _ => do
    let x : Vec F S1x16 .f32 ← Prog.lift (.load src (Rect.unit (s := S48x512) (k0_off2 k) S1x16.size (k0_off2_inb k)).toLoadRect (View.loadsAt_vmem h_S1x16))
    have g : IVec S16 32 := k0_pay18 x
    have hg : k0_chk5 g := (← Prog.lift (TpuEff.assume (k0_chk5 g) (k0_chk5.dec g))).down
    let c : Vec F S16 .f32 ← SparseCore.vectorLoadIdx ct ![g] (k0_idx5_inb g hg) (View.loads_vmem h_S128)
    let s : Vec F S16 .f32 ← SparseCore.vectorLoadIdx st ![g] (k0_idx6_inb g hg) (View.loads_vmem h_S128)
    let _ : Vec F S1x16 .f32 ← Prog.lift (.load dst (Rect.unit (s := S48x512) (k0_off2 k) S1x16.size (k0_off2_inb k)).toLoadRect (View.loadsAt_vmem h_S1x16))
    Prog.lift (.store dst (Rect.unit (s := S48x512) (k0_off2 k) S1x16.size (k0_off2_inb k)) (shapeCast S1x16 (k0_pay19 x c s) shapeCasts_S16_S1x16) Finset.univ (View.stores_vmem_bits_univ h_S1x16 rfl) (.inl rfl))
    pure ⟨⟩

/-- The whole inner loop over one block. -/
def blockLoop (i : grid0.Coords) (src dst : Blk) (ct st : Tbl) :
    Prog (TpuEff nD τ sig (Elt F) Λ₀ (.scVector ((i 0).castLE hcore0) ((i 1).castLE hsub0))) Unit :=
  Scf.Loop.for k0_t1_loop k0_t1_ok ⟨⟩ (trip i src dst ct st)

/-! ## Where a trip stands and what it stores -/

/-- Trip `k` stands at row `k / 32`, column `16·(k mod 32)`. -/
theorem off2_eq (k : Fin k0_t1_loop.trips) : k0_off2 k 0 = k.val / 32 ∧ k0_off2 k 1 = 16 * (k.val % 32) := by
  revert k; decide +kernel

/-- The sixteen lanes at trip `k`. -/
abbrev lanes (k : Fin k0_t1_loop.trips) : Rect S48x512 := Rect.unit (s := S48x512) (k0_off2 k) S1x16.size (k0_off2_inb k)

/-- The row-major place of an element of a block. -/
def place (y : S48x512.Idx) : ℕ := 512 * (y 0).val + (y 1).val

/-- The check passes: the sixteen segments are below 128. -/
theorem chk (x : Vec F S1x16 .f32) : k0_chk5 (k0_pay18 x) := by
  have h : ∀ (a : Fin 1) (j : S16.Idx), ((![k0_pay18 x] : Fin 1 → IVec S16 32) a j).toNat < S128.size a := by
    intro a j
    fin_cases a
    exact (seg_lt (k0_pay17 x j)).trans (by decide)
  exact ⟨h, h⟩

/-- What a trip stores at a lane: the line of that lane's segment at that lane's element. -/
theorem stored (x : Vec F S1x16 .f32) (cs ss : S128.Idx → F .f32) (h : ∀ a j, ((![k0_pay18 x] : Fin 1 → IVec S16 32) a j).toNat < S128.size a)
    (j : S1x16.Idx) :
    shapeCast S1x16 (k0_pay19 x (loadIdx cs ![k0_pay18 x] h) (loadIdx ss ![k0_pay18 x] h)) shapeCasts_S16_S1x16 j
      = lineOf cs ss (x j) := by
  have hj : k0_pay17 x (Shape.reshapeEquiv shapeCasts_S16_S1x16 j) = x j := by
    show shapeCast S1x16 (shapeCast S16 x shapeCasts_S1x16_S16) shapeCasts_S16_S1x16 j = x j
    rw [shapeCast_shapeCast]
  rw [← hj]
  have ht (t : S128.Idx → F .f32) : loadIdx (F := F) (e := .f32) t ![k0_pay18 x] h (Shape.reshapeEquiv shapeCasts_S16_S1x16 j)
      = t (at128 (seg (k0_pay17 x (Shape.reshapeEquiv shapeCasts_S16_S1x16 j))).toNat ((seg_lt _).trans (by decide))) := by
    refine congrArg t (funext fun a => ?_)
    fin_cases a
    rfl
  show FloatOps.addf (loadIdx (F := F) (e := .f32) cs _ h _) (FloatOps.mulf (loadIdx (F := F) (e := .f32) ss _ h _) _) = _
  rw [ht, ht]; rfl

/-- One trip extends what the out block holds by its sixteen places. -/
theorem extend {v : View sig .scVector .vmem S48x512 .f32} {f : v.ty.Contents (Elt F)} (k : Fin k0_t1_loop.trips) (g : S48x512.Idx → F .f32)
    (hf : ∀ y, place y < 16 * k.val → v.read (Elt F) f y = g y) (w : S1x16.Idx → F .f32) (hw : ∀ j, w j = g ((lanes k).emb j)) :
    ∀ y, place y < 16 * (k.val + 1) → v.read (Elt F) (v.writes (Elt F) f [⟨lanes k, w⟩]) y = g y := by
  intro y hy
  obtain ⟨h0, h1⟩ := off2_eq k
  have b0 := (y 0).isLt
  have b1 : (y 1).val < 512 := (y 1).isLt
  unfold place at hy
  by_cases hit : 16 * k.val ≤ place y
  · unfold place at hit
    have e0 : (y 0).val = k.val / 32 := by omega
    have e1 : 16 * (k.val % 32) ≤ (y 1).val ∧ (y 1).val < 16 * (k.val % 32) + 16 := by omega
    let x : S1x16.Idx := fun
      | 0 => ⟨0, by decide⟩
      | 1 => ⟨(y 1).val - 16 * (k.val % 32), by show _ < 16; omega⟩
    have hx : ∀ a, (y a).val = (lanes k).off a + (lanes k).stride a * (x a).val := by
      intro a
      match a with
      | 0 => show (y 0).val = k0_off2 k 0 + 1 * 0; omega
      | 1 => show (y 1).val = k0_off2 k 1 + 1 * ((y 1).val - 16 * (k.val % 32)); omega
    rw [View.read_writes_cons_hit_of_coords v f (lanes k) w [] x y hx, hw]
    refine congrArg g (funext fun a => Fin.ext ?_)
    rw [hx a]; rfl
  · have miss : place y < 16 * k.val := Nat.lt_of_not_le hit
    rw [← hf y miss]
    unfold place at miss
    by_cases hr : (y 0).val = k.val / 32
    · exact View.read_writes_cons_miss_of_axis v f ⟨lanes k, w⟩ [] y 1 (16 * (k.val % 32)) 16 h1 rfl rfl (Or.inl (by omega))
    · exact View.read_writes_cons_miss_of_axis v f ⟨lanes k, w⟩ [] y 0 (k.val / 32) 1 h0 rfl rfl (by omega)

/-! ## The loop's rule -/

omit [FloatOps F] in
/-- Reading a memref through its whole rectangle is reading it. -/
theorem read_whole {s : Shape} {sp : Space} {e : EltTy} (m : Memref sig .scVector sp s e) (f : m.view.ty.Contents (Elt F)) :
    (m.access (.whole s)).read (Elt F) f = m.view.read (Elt F) f := by
  funext x
  show m.view.read (Elt F) f ((Rect.whole s).emb x) = _
  rw [Rect.emb_whole_apply]

section Rule

variable (d : Dev nD) (i : grid0.Coords) (src dst : Blk) (ct st : Tbl)
  (fs : Buf (Elt F) (src.view.loc (thr d i))) (fc : Buf (Elt F) (ct.view.loc (thr d i))) (ft : Buf (Elt F) (st.view.loc (thr d i)))

/-- The out block's value at `y`. -/
abbrev outAt (y : S48x512.Idx) : F .f32 :=
  lineOf (ct.view.read (Elt F) fc) (st.view.read (Elt F) ft) (src.view.read (Elt F) fs y)

/-- What the loop holds: the tables and the in block unchanged, and the out block with its first `16·k` places done. -/
def blockInv (k : ℕ) (_ : Unit) : sProp 𝕄 :=
  iprop((src.view.loc (thr d i) ↦[Finset.univ]{fullShare} fs) ∗ (ct.view.loc (thr d i) ↦[Finset.univ]{fullShare} fc)
    ∗ (st.view.loc (thr d i) ↦[Finset.univ]{fullShare} ft)
    ∗ ∃ f, ⌜∀ y, place y < 16 * k → dst.view.read (Elt F) f y = outAt d i src ct st fs fc ft y⌝
        ∗ (dst.view.loc (thr d i) ↦[Finset.univ]{fullShare} f))

theorem trip_spec (k : Fin k0_t1_loop.trips) (a : Unit) :
    blockInv d i src dst ct st fs fc ft k.val a
      ⊢ wp frame (wpE (defs₀ (F := F)) 𝒱₀ (thr d i) none) Set.univ (trip i src dst ct st k a)
          fun r => blockInv d i src dst ct st fs fc ft (k.val + 1) r := by
  unfold trip blockInv
  simp only [Prog.lift, Prog.bind_op, Prog.bind_ret, Prog.pure_eq_ret]
  iintro ⟨Hs, Hc, Ht, %f, %hf, Hd⟩
  iapply (wp_load_rect 𝒱₀ (thr d i) none Set.univ (m := src) (r := lanes k) (S := Finset.univ) (Finset.subset_univ _)) $$ Hs
  iintro Hs
  rw [wp_assume_of _ _ _ _ (chk _)]
  iapply (SparseCore.wp_vectorLoadIdx 𝒱₀ (thr d i) none Set.univ (base := ct) (S := Finset.univ) (q := fullShare) (Finset.subset_univ _)) $$ Hc
  iintro Hc
  iapply (SparseCore.wp_vectorLoadIdx 𝒱₀ (thr d i) none Set.univ (base := st) (S := Finset.univ) (q := fullShare) (Finset.subset_univ _)) $$ Ht
  iintro Ht
  iapply (wp_load_rect 𝒱₀ (thr d i) none Set.univ (m := dst) (r := lanes k) (S := Finset.univ) (Finset.subset_univ _)) $$ Hd
  iintro Hd
  iapply (wp_store_writes₀ 𝒱₀ (thr d i) none Set.univ (m := dst) (r := lanes k) (S := Finset.univ) (Finset.subset_univ _)) $$ Hd
  iintro Hd
  rw [wp_ret]; imodintro
  isplitl [Hs]; · iexact Hs
  isplitl [Hc]; · iexact Hc
  isplitl [Ht]; · iexact Ht
  iexists _; isplitr
  rotate_left
  · iexact Hd
  · ipureintro
    refine extend k _ hf _ fun j => (stored _ _ _ _ j).trans ?_
    show lineOf ((ct.access (.whole S128)).read (Elt F) fc) ((st.access (.whole S128)).read (Elt F) ft) _ = _
    rw [read_whole, read_whole]; rfl

/-- The inner loop over one block: it leaves the tables and the in block as they were, and every element of the out
    block at the value of the line through the in block's element there. -/
theorem block_spec {α : Type} (kk : Unit → Prog _ α) (Q : α → sProp 𝕄) :
    iprop((src.view.loc (thr d i) ↦[Finset.univ]{fullShare} fs) ∗ (ct.view.loc (thr d i) ↦[Finset.univ]{fullShare} fc)
        ∗ (st.view.loc (thr d i) ↦[Finset.univ]{fullShare} ft) ∗ (∃ f, dst.view.loc (thr d i) ↦[Finset.univ]{fullShare} f)
        ∗ (((src.view.loc (thr d i) ↦[Finset.univ]{fullShare} fs) ∗ (ct.view.loc (thr d i) ↦[Finset.univ]{fullShare} fc)
            ∗ (st.view.loc (thr d i) ↦[Finset.univ]{fullShare} ft)
            ∗ ∃ f, ⌜∀ y, dst.view.read (Elt F) f y = outAt d i src ct st fs fc ft y⌝ ∗ (dst.view.loc (thr d i) ↦[Finset.univ]{fullShare} f))
          -∗ wp frame (wpE (defs₀ (F := F)) 𝒱₀ (thr d i) none) Set.univ (kk ()) Q))
      ⊢ wp frame (wpE (defs₀ (F := F)) 𝒱₀ (thr d i) none) Set.univ (blockLoop i src dst ct st >>= kk) Q := by
  unfold blockLoop
  iintro ⟨Hs, Hc, Ht, ⟨%f, Hd⟩, HQ⟩
  iapply (Scf.wp_for_bind frame (wpE (defs₀ (F := F)) 𝒱₀ (thr d i) none) Set.univ
    k0_t1_loop.lb k0_t1_loop.ub k0_t1_loop.st k0_t1_ok ⟨⟩ (trip i src dst ct st) (blockInv d i src dst ct st fs fc ft)
    (trip_spec d i src dst ct st fs fc ft)) $$ [Hs Hc Ht Hd]
  · unfold blockInv
    isplitl [Hs]; · iexact Hs
    isplitl [Hc]; · iexact Hc
    isplitl [Ht]; · iexact Ht
    iexists f; isplitr
    · ipureintro; exact fun y hy => absurd hy (Nat.not_lt_zero _)
    · iexact Hd
  · iintro %r HI
    unfold blockInv
    icases HI with ⟨Hs, Hc, Ht, %g, %hg, Hd⟩
    iapply HQ
    isplitl [Hs]; · iexact Hs
    isplitl [Hc]; · iexact Hc
    isplitl [Ht]; · iexact Ht
    iexists g; isplitr
    · ipureintro
      refine fun y => hg y ?_
      have b0 : (y 0).val < 48 := (y 0).isLt
      have b1 : (y 1).val < 512 := (y 1).isLt
      have ht : k0_t1_loop.trips = 1536 := by decide +kernel
      show 512 * (y 0).val + (y 1).val < 16 * k0_t1_loop.trips
      omega
    · iexact Hd

end Rule

end Cert.Proof.Pwl

end
-- ==== Proof.Chunks.lean ====
/-
  What the arrays hold, and how they are cut. The kernel's x and out are 24576 rows of 512; a task's 768 rows are
  sixteen chunks of 48 rows, and chunk `n` of the whole array is rows `48·n` to `48·n + 47` (`chunk`). `glob n` says
  which element of the array a block's element is. The values: a segment's slope and intercept, computed from the 32
  keypoints (`slopeAt`, `interAt`), and the out array (`outVal`).
-/
module

public import proofs.«01_k».proof.Proof.Block

@[expose] public section

noncomputable section

namespace Cert.Proof.Pwl

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI

variable {F : FTy → Type} [FloatOps F]

/-! ## The values -/

/-- Keypoint `n`, the last one for any later `n`. -/
def knot (kp : S32.Idx → F .f32) (n : ℕ) : F .f32 :=
  kp fun a => ⟨min n 31, by fin_cases a; exact lt_of_le_of_lt (Nat.min_le_right n 31) (by decide)⟩

/-- The step from keypoint `n` to the next. -/
def stepAt (kp : S32.Idx → F .f32) (n : ℕ) : F .f32 := FloatOps.subf (knot kp (n + 1)) (knot kp n)

/-- Segment `n`'s slope: its step times 31. -/
def slopeAt (kp : S32.Idx → F .f32) (n : ℕ) : F .f32 := FloatOps.mulf (stepAt kp n) (Scalar.ofBits .f32 0x41F80000#32)

/-- Segment `n`'s intercept: its keypoint less `n` steps. -/
def interAt (kp : S32.Idx → F .f32) (n : ℕ) : F .f32 :=
  FloatOps.subf (knot kp n) (FloatOps.mulf (FloatOps.sitofp .f32 (BitVec.ofNat 32 n)) (stepAt kp n))

/-- The kernel's value at an element `x`: the line of `x`'s segment. -/
def lineVal (kp : S32.Idx → F .f32) (x : F .f32) : F .f32 :=
  FloatOps.addf (interAt kp (seg x).toNat) (FloatOps.mulf (slopeAt kp (seg x).toNat) x)

/-- The out array. -/
def outVal (kp : S32.Idx → F .f32) (X : S24576x512.Idx → F .f32) : S24576x512.Idx → F .f32 := fun z => lineVal kp (X z)

/-- Tables holding the intercepts and slopes in their first 32 lanes give the kernel's value. -/
theorem lineOf_eq (kp : S32.Idx → F .f32) {cs ss : S128.Idx → F .f32} (hc : ∀ j : S128.Idx, (j 0).val < 32 → cs j = interAt kp (j 0).val)
    (hs : ∀ j : S128.Idx, (j 0).val < 32 → ss j = slopeAt kp (j 0).val) (x : F .f32) : lineOf cs ss x = lineVal kp x := by
  have h : (seg x).toNat < 32 := (seg_lt x).trans (by decide)
  unfold lineOf lineVal
  rw [hc _ h, hs _ h]

/-! ## The chunks -/

/-- Chunk `n`: rows `48·n` to `48·n + 47`. -/
def chunk (n : ℕ) : Finset S24576x512.Idx := Finset.univ.filter fun z => (z 0).val / 48 = n

/-- The element of the array that element `y` of chunk `n`'s block is. -/
def glob (n : ℕ) (y : S48x512.Idx) : S24576x512.Idx := fun
  | 0 => ⟨(48 * n + (y 0).val) % 24576, Nat.mod_lt _ (by decide)⟩
  | 1 => ⟨(y 1).val, (y 1).isLt⟩

/-- A block's rectangle of the array, by its offsets. -/
abbrev rows (off : Fin 2 → ℕ) (inb : ∀ a, off a + S48x512.size a ≤ S24576x512.size a) : Rect S24576x512 :=
  Rect.unit (s := S24576x512) off S48x512.size inb

variable {off : Fin 2 → ℕ} {inb : ∀ a, off a + S48x512.size a ≤ S24576x512.size a} {n : ℕ}

theorem rows_set (h : off = ![48 * n, 0]) : (rows off inb).set = chunk n := by
  subst h
  ext z
  rw [Rect.mem_set_unit]
  have b1 : (z 1).val < 512 := (z 1).isLt
  simp only [chunk, Finset.mem_filter, Finset.mem_univ, true_and]
  constructor
  · intro hz
    have h0 : 48 * n ≤ (z 0).val ∧ (z 0).val < 48 * n + 48 := hz 0
    omega
  · intro hz a
    match a with
    | 0 => show 48 * n ≤ (z 0).val ∧ (z 0).val < 48 * n + 48; omega
    | 1 => show 0 ≤ (z 1).val ∧ (z 1).val < 0 + 512; omega

theorem rows_emb (h : off = ![48 * n, 0]) (y : S48x512.Idx) : (rows off inb).emb y = glob n y := by
  subst h
  have hb : 48 * n + 48 ≤ 24576 := inb 0
  have b0 : (y 0).val < 48 := (y 0).isLt
  funext a
  match a with
  | 0 => exact Fin.ext (by show 48 * n + 1 * (y 0).val = (48 * n + (y 0).val) % 24576; omega)
  | 1 => exact Fin.ext (by show 0 + 1 * (y 1).val = (y 1).val; omega)

/-- Every element of a chunk is a block's element. -/
theorem exists_glob (h : off = ![48 * n, 0]) (inb : ∀ a, off a + S48x512.size a ≤ S24576x512.size a) {z : S24576x512.Idx} (hz : z ∈ chunk n) :
    ∃ y, z = glob n y := by
  rw [← rows_set (inb := inb) h, Rect.mem_set_unit] at hz
  subst h
  have h0 : 48 * n ≤ (z 0).val ∧ (z 0).val < 48 * n + 48 := hz 0
  have hb : (z 0).val < 24576 := (z 0).isLt
  refine ⟨fun | 0 => ⟨(z 0).val - 48 * n, by show _ < 48; omega⟩ | 1 => ⟨(z 1).val, (z 1).isLt⟩, funext fun a => ?_⟩
  match a with
  | 0 => exact Fin.ext (by show (z 0).val = (48 * n + ((z 0).val - 48 * n)) % 24576; omega)
  | 1 => rfl

/-! ## The offsets the kernel computes -/

/-- A task's number: its first chunk is sixteen times it. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

theorem off1_eq (i : grid0.Coords) (g : Fin 16) : k0_off1 i (BitVec.ofNat 32 (48 * g.val)) = ![48 * (16 * wid i + g.val), 0] := by
  have h0 : (i 0).val < 2 := (i 0).isLt
  have h1 : (i 1).val < 16 := (i 1).isLt
  have hg := g.isLt
  unfold k0_off1 wid
  dsimp only [Scalar.muli, Scalar.addi, IntOp.muli, IntOp.addi]
  congr 1
  simp only [BitVec.toNat_add, BitVec.toNat_mul, BitVec.toNat_ofNat]
  omega

variable (i : grid0.Coords) (t : Fin k0_t3_loop.trips)

theorem off6_eq (r : Fin 2) : k0_off6 i t (BitVec.ofNat 32 r.val) = ![48 * (16 * wid i + (2 * t.val + r.val)), 0] := by
  rw [k0_off6_eq]; unfold wid; congr 1; omega

theorem off7_eq (r : Fin 2) : k0_off7 i t (BitVec.ofNat 32 r.val) = ![48 * (16 * wid i + (2 * t.val + r.val + 2)), 0] := by
  rw [k0_off7_eq]; unfold wid; congr 1; omega

theorem off10_eq (r : Fin 2) : k0_off10 i t (BitVec.ofNat 32 r.val) = ![48 * (16 * wid i + (2 * t.val + r.val + 4)), 0] := by
  rw [k0_off10_eq]; unfold wid; congr 1; omega

/-! ## The six loops are one -/

section Same

variable (a2 : Memref sig .scVector .hbm S24576x512 .f32) (h2 : a2.IsWhole) (a3 : Memref sig .scVector .hbm S32 .f32) (h3 : a3.IsWhole)
  (a4 : Memref sig .scVector .hbm S24576x512 .f32) (h4 : a4.IsWhole) (a5 a6 a7 : Tbl) (h5 : a5.IsWhole) (h6 : a6.IsWhole) (h7 : a7.IsWhole)
  (a8 a9 a10 a11 : Blk) (h8 : a8.IsWhole) (h9 : a9.IsWhole) (h10 : a10.IsWhole) (h11 : a11.IsWhole)
  (a12 a13 a14 a15 a16 : DmaSems sig S_) (v2 c d e : BitVec 32) (v22 : IVec S16 32) (v23 : Vec F S16 .f32) (v29 : FVec F S16 .f32) (k : F .f32)

theorem t1_eq : Scf.Loop.for k0_t1_loop k0_t1_ok ⟨⟩ (k0_t1_body i a2 h2 a3 h3 a4 h4 a5 h5 a6 h6 a7 h7 a8 h8 a9 h9 a10 h10 a11 h11 a12 a13 a14 a15 a16 v2 v22 v23 v29 k)
    = blockLoop i a8 a10 a6 a7 := rfl
theorem t2_eq : Scf.Loop.for k0_t2_loop k0_t2_ok ⟨⟩ (k0_t2_body (F := F) i a2 h2 a3 h3 a4 h4 a5 h5 a6 h6 a7 h7 a8 h8 a9 h9 a10 h10 a11 h11 a12 a13 a14 a15 a16 v2 c)
    = blockLoop i a9 a11 a6 a7 := rfl
theorem t4_eq : Scf.Loop.for k0_t4_loop k0_t4_ok ⟨⟩ (k0_t4_body (F := F) i a2 h2 a3 h3 a4 h4 a5 h5 a6 h6 a7 h7 a8 h8 a9 h9 a10 h10 a11 h11 a12 a13 a14 a15 a16 v2 c d t)
    = blockLoop i a8 a10 a6 a7 := rfl
theorem t5_eq : Scf.Loop.for k0_t5_loop k0_t5_ok ⟨⟩ (k0_t5_body (F := F) i a2 h2 a3 h3 a4 h4 a5 h5 a6 h6 a7 h7 a8 h8 a9 h9 a10 h10 a11 h11 a12 a13 a14 a15 a16 v2 c)
    = blockLoop i a9 a11 a6 a7 := rfl
theorem t6_eq : Scf.Loop.for k0_t6_loop k0_t6_ok ⟨⟩ (k0_t6_body (F := F) i a2 h2 a3 h3 a4 h4 a5 h5 a6 h6 a7 h7 a8 h8 a9 h9 a10 h10 a11 h11 a12 a13 a14 a15 a16 v2 c)
    = blockLoop i a8 a10 a6 a7 := rfl
theorem t7_eq : Scf.Loop.for k0_t7_loop k0_t7_ok ⟨⟩ (k0_t7_body (F := F) i a2 h2 a3 h3 a4 h4 a5 h5 a6 h6 a7 h7 a8 h8 a9 h9 a10 h10 a11 h11 a12 a13 a14 a15 a16)
    = blockLoop i a9 a11 a6 a7 := rfl

end Same

end Cert.Proof.Pwl

end
-- ==== Proof.Steps.lean ====
/-
  One step of a task's stream, as a rule: start fetching a chunk of x into an in block, wait for it, run the lines
  over a block, start writing an out block to a chunk of out, wait for that. What a block holds is said by the chunk
  it belongs to (`Holds b n f`: the block `b` holds chunk `n` of the array `f`), and a transfer under way by what its
  wait gives back (`Fetching`, `Writing`).
-/
module

public import proofs.«01_k».proof.Proof.Chunks

@[expose] public section

noncomputable section

namespace Cert.Proof.Pwl

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- The kernel's x, keypoints and out, as a task names them. -/
abbrev xW : Memref sig .scVector .hbm S24576x512 .f32 := Memref.whole main_v0_scv
abbrev kW : Memref sig .scVector .hbm S32 .f32 := Memref.whole main_arg1_scv
abbrev oW : Memref sig .scVector .hbm S24576x512 .f32 := Memref.whole main_v1_scv

/-- The same three arrays, as locations of a device. -/
abbrev xLoc (d : Dev nD) : Loc nD τ sig := (SparseCore.T d).loc main_v0
abbrev kLoc (d : Dev nD) : Loc nD τ sig := (SparseCore.T d).loc main_arg1
abbrev oLoc (d : Dev nD) : Loc nD τ sig := (SparseCore.T d).loc main_v1

/-- A task's programs. -/
abbrev TaskProg (i : grid0.Coords) (α : Type) : Type 1 :=
  Prog (TpuEff nD τ sig (Elt F) Λ₀ (Proc.scVector ((i 0).castLE hcore0) ((i 1).castLE hsub0))) α

/-- What a task must own to run `p` to a state where `Q` holds. -/
abbrev run (d : Dev nD) (i : grid0.Coords) {α : Type} (p : TaskProg (F := F) i α) (Q : α → sProp 𝕄) : sProp 𝕄 :=
  wp frame (wpE (defs₀ (F := F)) 𝒱₀ (thr d i) none) Set.univ p Q

section Defs

variable (d : Dev nD) (i : grid0.Coords)

/-- The block `b` holds chunk `n` of the array `f`. -/
def Holds (b : Blk) (n : ℕ) (f : S24576x512.Idx → F .f32) : sProp 𝕄 :=
  iprop(∃ c, ⌜∀ y, b.view.read (Elt F) c y = f (glob n y)⌝ ∗ (b.view.loc (thr d i) ↦[Finset.univ]{fullShare} c))

/-- The block `b`, holding anything. -/
def Free (b : Blk) : sProp 𝕄 := iprop(∃ c, b.view.loc (thr d i) ↦[Finset.univ]{fullShare} c)

/-- The table `t` holds `g` in its first `m` lanes. -/
def Lanes (t : Tbl) (g : ℕ → F .f32) (m : ℕ) : sProp 𝕄 :=
  iprop(∃ c, ⌜∀ j : S128.Idx, (j 0).val < m → t.view.read (Elt F) c j = g (j 0).val⌝ ∗ (t.view.loc (thr d i) ↦[Finset.univ]{fullShare} c))

/-- The table `t` holds `g` in the 32 lanes the kernel uses. -/
abbrev Table (t : Tbl) (g : ℕ → F .f32) : sProp 𝕄 := Lanes d i t g 32

/-- The table `t`, holding anything. -/
def Room (t : Tbl) : sProp 𝕄 := iprop(∃ c, t.view.loc (thr d i) ↦[Finset.univ]{fullShare} c)

/-- What the task owes, with only waits of its own recorded since `W`. -/
def Owing (O : CellTallies nD τ sig (HIx 1)) (W : Waits sig (HIx 1)) : sProp 𝕄 :=
  iprop(∃ W', ⌜∀ p ∈ W', p ∈ W ∨ p.2 = none⌝ ∗ owes (thr d i) O W')

/-- The counter of a semaphore of the task's, at zero. -/
abbrev Idle (s : DmaSems sig S_) : sProp 𝕄 := semVal (thr d i, .dma s.sem) 0

/-- A chunk of x, and a chunk of out. -/
abbrev xChunk (X : S24576x512.Idx → F .f32) (n : ℕ) : sProp 𝕄 := pointsTo (xLoc d) (show Finset S24576x512.Idx from chunk n) fullShare (show S24576x512.Idx → F .f32 from X)
abbrev oChunk (f : S24576x512.Idx → F .f32) (n : ℕ) : sProp 𝕄 := pointsTo (oLoc d) (show Finset S24576x512.Idx from chunk n) fullShare (show S24576x512.Idx → F .f32 from f)

/-- A fetch of chunk `n` into `b` under way. -/
def Fetching (s : DmaSems sig S_) (b : Blk) (X : S24576x512.Idx → F .f32) (n : ℕ) : sProp 𝕄 :=
  Transfers.Flight countersEmb (thr d i) (.dma s.sem) (none : HIx 1) b.view.dmaCredit iprop(Holds d i b n X ∗ xChunk d X n)

/-- The credit of a write-out of a block. -/
abbrev outCredit : ℕ := sig.dmaCredit .scVector (Kind.scVector.table .hbm) (main_v1_scv : Ref sig .scVector).idx S48x512 .f32

/-- A write-out of `b` to chunk `n` under way, leaving the array's values `G` there. -/
def Writing (s : DmaSems sig S_) (b : Blk) (G : S24576x512.Idx → F .f32) (n : ℕ) : sProp 𝕄 :=
  Transfers.Flight countersEmb (thr d i) (.dma s.sem) (none : HIx 1) outCredit iprop(Free d i b ∗ oChunk d G n)

end Defs

section Rules

variable (d : Dev nD) (i : grid0.Coords) {α : Type} {Q : α → sProp (MM F)}
  {off : Fin 2 → ℕ} {inb : ∀ a, off a + S48x512.size a ≤ S24576x512.size a} {n : ℕ}

/-- Issuing the copy of chunk `n` of x into a free block, on an idle semaphore. -/
theorem start_fetch (h : off = ![48 * n, 0]) {b : Blk} (hb : b.IsWhole) {s : DmaSems sig S_} {X : S24576x512.Idx → F .f32}
    {hsrc hdst hsem} {k : PUnit → TaskProg (F := F) i α} :
    iprop(xChunk d X n ∗ Free d i b ∗ Idle d i s)
      ⊢ iprop((Fetching d i s b X n -∗ run d i (k ⟨⟩) Q)
        -∗ run d i (.op (.enqueueDma (xW.slice (rows off inb) (fun _ => rfl)) (.here b) (.dma s.sem) hsrc hdst hsem) k) Q) := by
  have hset : (xW.slice (rows off inb) (fun _ => rfl)).view.set = chunk n := by
    show ((View.whole (main_v0_scv : Ref sig .scVector)).slice (rows off inb)).set = _
    rw [View.set_slice, ← rows_set (inb := inb) h]; exact Finset.map_refl
  unfold Free
  iintro ⟨Hx, ⟨%c, Hb⟩, Hs⟩ Hk
  ihave Hx := (Entails.of_eq (show xChunk d X n = ((xW.slice (rows off inb) (fun _ => rfl)).view.loc (thr d i)
    ↦[(xW.slice (rows off inb) (fun _ => rfl)).view.set]{fullShare} X : sProp 𝕄) by rw [hset])) $$ Hx
  iapply (Transfers.wp_dmaLocal countersEmb 𝒱₀ (thr d i) none (Sd := Finset.univ) (none : HIx 1) b.view.dmaCredit rfl
    (View.dmaCredit_pos _ (by decide)) (Finset.subset_univ _)) $$ [Hx Hb Hs]
  · isplitl [Hx]; · iexact Hx
    isplitl [Hb]; · iexact Hb
    iexact Hs
  iintro Hf
  iapply Hk
  unfold Fetching
  iapply (Transfers.Flight_mono countersEmb (thr d i) ?_) $$ Hf
  unfold Holds
  iintro ⟨Hb, Hx⟩
  isplitl [Hb]
  · iexists _; isplitr
    rotate_left
    · iexact Hb
    · ipureintro
      intro y
      rw [View.read_write_univ]
      show X ((rows off inb).emb y) = _
      rw [rows_emb h]
  · rw [hset]; iexact Hx

/-- Waiting for a fetch: the block holds chunk `n` of x, and the chunk of x and the semaphore are back. -/
theorem wait_fetch {b : Blk} {s : DmaSems sig S_} {X : S24576x512.Idx → F .f32} {O : CellTallies nD τ sig (HIx 1)} {W : Waits sig (HIx 1)}
    {sp : Space} {s' : Shape} {e' : EltTy} {src : Memref sig .scVector sp s' e'} {hsrc : src.view.WordExact} {hdst : b.view.WordExact}
    {k : PUnit → TaskProg (F := F) i α} :
    iprop(Fetching d i s b X n ∗ Owing d i O W ∗ Transfers.MayWaits (thr d i) (none : HIx 1) O)
      ⊢ iprop((iprop(Holds d i b n X ∗ xChunk d X n ∗ Idle d i s ∗ Owing d i O W) -∗ run d i (k ⟨⟩) Q)
        -∗ run d i (.op (.waitDma2 s.sem src b hsrc hdst) k) Q) := by
  unfold Fetching Owing
  iintro ⟨Hf, ⟨%W', %hW, HO⟩, Hmw⟩ Hk
  iapply (Transfers.wp_waitLocalO countersEmb 𝒱₀ (thr d i) none (none : HIx 1) rfl) $$ [Hf HO Hmw]
  · isplitl [Hf]; · iexact Hf
    isplitl [HO]; · iexact HO
    iapply (Transfers.MayWaits.elim _) $$ Hmw
  iintro ⟨⟨Hb, Hx⟩, Hs, HO⟩
  iapply Hk
  isplitl [Hb]; · iexact Hb
  isplitl [Hx]; · iexact Hx
  isplitl [Hs]; · iexact Hs
  iexists _; isplitr
  rotate_left
  · iexact HO
  · ipureintro
    intro p hp
    rcases Finset.mem_insert.mp hp with rfl | hp
    · exact .inr rfl
    · exact hW p hp

/-- Issuing the copy of a block that holds chunk `n` of the out array onto that chunk of out, on an idle semaphore. -/
theorem start_write (h : off = ![48 * n, 0]) {b : Blk} (hb : b.IsWhole) {s : DmaSems sig S_} {G f : S24576x512.Idx → F .f32}
    {hsrc hdst hsem} {k : PUnit → TaskProg (F := F) i α} :
    iprop(Holds d i b n G ∗ oChunk d f n ∗ Idle d i s)
      ⊢ iprop((Writing d i s b G n -∗ run d i (k ⟨⟩) Q)
        -∗ run d i (.op (.enqueueDma b (.here (oW.slice (rows off inb) (fun _ => rfl))) (.dma s.sem) hsrc hdst hsem) k) Q) := by
  have hset : (oW.slice (rows off inb) (fun _ => rfl)).view.set = chunk n := by
    show ((View.whole (main_v1_scv : Ref sig .scVector)).slice (rows off inb)).set = _
    rw [View.set_slice, ← rows_set (inb := inb) h]; exact Finset.map_refl
  unfold Holds
  iintro ⟨⟨%c, %hc, Hb⟩, Ho, Hs⟩ Hk
  ihave Hb := (Entails.of_eq (show (b.view.loc (thr d i) ↦[Finset.univ]{fullShare} c : sProp 𝕄)
    = (b.view.loc (thr d i) ↦[b.view.set]{fullShare} c) by rw [hb.set_eq_univ])) $$ Hb
  iapply (Transfers.wp_dmaLocal countersEmb 𝒱₀ (thr d i) none (Sd := chunk n) (fd := f) (none : HIx 1) outCredit rfl
    (sig.dmaCredit_pos _ _ _ _ _ (by decide)) hset.subset) $$ [Hb Ho Hs]
  · isplitl [Hb]; · iexact Hb
    isplitl [Ho]; · iexact Ho
    iexact Hs
  iintro Hf
  iapply Hk
  unfold Writing
  iapply (Transfers.Flight_mono countersEmb (thr d i) ?_) $$ Hf
  unfold Free
  iintro ⟨Ho, Hb⟩
  isplitl [Hb]
  · iexists c; rw [hb.set_eq_univ]; iexact Hb
  · iapply (Entails.of_eq (pointsTo_congr (ℓ := oLoc d) (q := fullShare) (g := G) fun z hz => ?_)) $$ Ho
    obtain ⟨y, rfl⟩ := exists_glob h inb hz
    have hr := congrFun (View.read_write_univ (v := (oW.slice (rows off inb) (fun _ => rfl)).view) f (b.view.read (Elt F) c)) y
    rw [hc] at hr
    refine .trans ?_ hr
    rw [← rows_emb (inb := inb) h]; rfl

/-- Waiting for a write-out: the chunk of out holds the out array's values, and the block and the semaphore are back. -/
theorem wait_write {b : Blk} {s : DmaSems sig S_} {G : S24576x512.Idx → F .f32} {O : CellTallies nD τ sig (HIx 1)} {W : Waits sig (HIx 1)}
    {hsrc hdst} {k : PUnit → TaskProg (F := F) i α} :
    iprop(Writing d i s b G n ∗ Owing d i O W ∗ Transfers.MayWaits (thr d i) (none : HIx 1) O)
      ⊢ iprop((iprop(Free d i b ∗ oChunk d G n ∗ Idle d i s ∗ Owing d i O W) -∗ run d i (k ⟨⟩) Q)
        -∗ run d i (.op (.waitDma2 s.sem b (oW.slice (rows off inb) (fun _ => rfl)) hsrc hdst) k) Q) := by
  unfold Writing Owing
  iintro ⟨Hf, ⟨%W', %hW, HO⟩, Hmw⟩ Hk
  iapply (Transfers.wp_waitLocalO countersEmb 𝒱₀ (thr d i) none (none : HIx 1) rfl) $$ [Hf HO Hmw]
  · isplitl [Hf]; · iexact Hf
    isplitl [HO]; · iexact HO
    iapply (Transfers.MayWaits.elim _) $$ Hmw
  iintro ⟨⟨Hb, Ho⟩, Hs, HO⟩
  iapply Hk
  isplitl [Hb]; · iexact Hb
  isplitl [Ho]; · iexact Ho
  isplitl [Hs]; · iexact Hs
  iexists _; isplitr
  rotate_left
  · iexact HO
  · ipureintro
    intro p hp
    rcases Finset.mem_insert.mp hp with rfl | hp
    · exact .inr rfl
    · exact hW p hp

/-- The lines over a block: from chunk `n` of x in the in block, chunk `n` of the out array in the out block. -/
theorem compute {src dst : Blk} {ct st : Tbl} (kp : S32.Idx → F .f32) {X : S24576x512.Idx → F .f32} {k : Unit → TaskProg (F := F) i α} :
    iprop(Holds d i src n X ∗ Free d i dst ∗ Table d i ct (interAt kp) ∗ Table d i st (slopeAt kp))
      ⊢ iprop((iprop(Free d i src ∗ Holds d i dst n (outVal kp X) ∗ Table d i ct (interAt kp) ∗ Table d i st (slopeAt kp)) -∗ run d i (k ⟨⟩) Q)
        -∗ run d i (blockLoop i src dst ct st >>= k) Q) := by
  unfold Holds Free Table Lanes
  iintro ⟨⟨%fs, %hs, Hs⟩, Hd, ⟨%fc, %hc, Hc⟩, ⟨%ft, %ht, Ht⟩⟩ Hk
  iapply (block_spec d i src dst ct st fs fc ft k Q)
  isplitl [Hs]; · iexact Hs
  isplitl [Hc]; · iexact Hc
  isplitl [Ht]; · iexact Ht
  isplitl [Hd]; · iexact Hd
  iintro ⟨Hs, Hc, Ht, %fd, %hd, Hd⟩
  iapply Hk
  isplitl [Hs]; · iexists fs; iexact Hs
  isplitl [Hd]
  · iexists fd; isplitr
    · ipureintro
      intro y
      rw [hd, outAt, lineOf_eq kp hc ht, hs]; rfl
    · iexact Hd
  isplitl [Hc]
  · iexists fc; isplitr
    · ipureintro; exact hc
    · iexact Hc
  · iexists ft; isplitr
    · ipureintro; exact ht
    · iexact Ht

end Rules

end Cert.Proof.Pwl

end
-- ==== Proof.Tables.lean ====
/-
  The two tables a task builds before it streams: it copies the 32 keypoints into its memory, and in two halves of
  sixteen lanes writes the slope and the intercept of every segment. The second half of the writing lies in the
  part of the body after the first, which hands it the lane numbers, the keypoints and the steps of lanes 16 to 31.
-/
module

public import proofs.«01_k».proof.Proof.Steps

@[expose] public section

noncomputable section

namespace Cert.Proof.Pwl

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## The lanes -/

/-- Lanes filled up to `o` and then from `o` on are filled up to the end of the second. -/
theorem fill {v : View sig .scVector .vmem S128 .f32} {f : v.ty.Contents (Elt F)} {o m : ℕ} {sz : Fin 1 → ℕ} (hm : sz 0 = m)
    {inb : ∀ a, (![o] : Fin 1 → ℕ) a + sz a ≤ S128.size a} {g : ℕ → F .f32}
    (hf : ∀ j : S128.Idx, (j 0).val < o → v.read (Elt F) f j = g (j 0).val)
    {w : (Rect.unit (s := S128) ![o] sz inb).shape.Idx → F .f32} (hw : ∀ x, w x = g (o + (x 0).val)) :
    ∀ j : S128.Idx, (j 0).val < o + m → v.read (Elt F) (v.writes (Elt F) f [⟨Rect.unit (s := S128) ![o] sz inb, w⟩]) j = g (j 0).val := by
  intro j hj
  by_cases h : (j 0).val < o
  · rw [← hf j h]
    exact View.read_writes_cons_miss_of_axis v f ⟨_, w⟩ [] j 0 o m rfl rfl hm (Or.inl h)
  · let x : (Rect.unit (s := S128) ![o] sz inb).shape.Idx := fun
      | 0 => ⟨(j 0).val - o, by show _ < sz 0; omega⟩
    have hx : ∀ a, (j a).val = (Rect.unit (s := S128) ![o] sz inb).off a + (Rect.unit (s := S128) ![o] sz inb).stride a * (x a).val := by
      intro a
      match a with
      | 0 => show (j 0).val = o + 1 * ((j 0).val - o); omega
    rw [View.read_writes_cons_hit_of_coords v f _ w [] x j hx, hw]
    exact congrArg g (by show o + ((j 0).val - o) = _; omega)

theorem pay7_toNat (j : S16.Idx) : (k0_pay7 j).toNat = (j 0).val := by
  have : (j 0).val < 16 := (j 0).isLt
  show (BitVec.ofNat 32 (0 * S16.size 0 + (j 0).val) + 0#32).toNat = _
  rw [BitVec.add_zero, BitVec.toNat_ofNat]; omega

theorem pay7_eq (j : S16.Idx) : k0_pay7 j = BitVec.ofNat 32 (0 + (j 0).val) := by
  apply BitVec.eq_of_toNat_eq
  have : (j 0).val < 16 := (j 0).isLt
  rw [pay7_toNat, BitVec.toNat_ofNat]; omega

theorem pay12_toNat (j : S16.Idx) : (k0_pay12 j).toNat = 16 + (j 0).val := by
  have : (j 0).val < 16 := (j 0).isLt
  show (BitVec.ofNat 32 (0 * S16.size 0 + (j 0).val) + 16#32).toNat = _
  rw [BitVec.toNat_add, BitVec.toNat_ofNat]; simp only [BitVec.toNat_ofNat]; omega

theorem pay12_eq (j : S16.Idx) : k0_pay12 j = BitVec.ofNat 32 (16 + (j 0).val) := by
  apply BitVec.eq_of_toNat_eq
  have : (j 0).val < 16 := (j 0).isLt
  rw [pay12_toNat, BitVec.toNat_ofNat]; omega

/-- The smaller of a small number's successor and 31. -/
theorem succ_min {v : BitVec 32} {n : ℕ} (h : v.toNat = n) (hn : n < 32) : (IntOp.minsi (v + 1#32) 31#32).toNat = min (n + 1) 31 := by
  have hv : v = BitVec.ofNat 32 n := by
    apply BitVec.eq_of_toNat_eq; rw [h, BitVec.toNat_ofNat]; omega
  subst hv
  clear h
  revert n
  decide +kernel

theorem pay8_toNat (j : S16.Idx) : (k0_pay8 k0_pay7 j).toNat = min ((j 0).val + 1) 31 :=
  succ_min (pay7_toNat j) (lt_trans (j 0).isLt (by decide))

theorem pay13_toNat (j : S16.Idx) : (k0_pay13 k0_pay12 j).toNat = min (16 + (j 0).val + 1) 31 :=
  succ_min (pay12_toNat j) (by have : (j 0).val < 16 := (j 0).isLt; omega)

/-- The four checks pass: the lanes are below 128. -/
theorem chk_of {v : IVec S16 32} (h : ∀ j, (v j).toNat < 32) : ∀ (a : Fin 1) (j : S16.Idx), ((![v] : Fin 1 → IVec S16 32) a j).toNat < S128.size a := by
  intro a j
  fin_cases a
  exact (h j).trans (by decide)

theorem pay7_lt (j : S16.Idx) : (k0_pay7 j).toNat < 32 := by rw [pay7_toNat]; exact lt_trans (j 0).isLt (by decide)
theorem pay8_lt (j : S16.Idx) : (k0_pay8 k0_pay7 j).toNat < 32 := by rw [pay8_toNat]; omega
theorem pay12_lt (j : S16.Idx) : (k0_pay12 j).toNat < 32 := by
  have : (j 0).val < 16 := (j 0).isLt
  rw [pay12_toNat]; omega
theorem pay13_lt (j : S16.Idx) : (k0_pay13 k0_pay12 j).toNat < 32 := by rw [pay13_toNat]; omega

/-- Reading the copied keypoints at given lanes. -/
theorem gathered (m : Tbl) {f : m.view.ty.Contents (Elt F)} {g : ℕ → F .f32}
    (hf : ∀ j : S128.Idx, (j 0).val < 32 → m.view.read (Elt F) f j = g (j 0).val)
    {v : IVec S16 32} (hv : ∀ j, (v j).toNat < 32) (h : ∀ a j, ((![v] : Fin 1 → IVec S16 32) a j).toNat < S128.size a) (j : S16.Idx) :
    loadIdx (F := F) (e := .f32) ((m.access (.whole S128)).read (Elt F) f) ![v] h j = g (v j).toNat := by
  rw [read_whole]
  exact hf _ (hv j)

/-- Every keypoint index from 31 on names the last keypoint. -/
theorem knot_min (kp : S32.Idx → F .f32) (n : ℕ) : knot kp (min n 31) = knot kp n := by
  unfold knot; exact congrArg kp (funext fun a => Fin.ext (by show min (min n 31) 31 = min n 31; omega))

/-- A keypoint of the array, by its index. -/
theorem knot_eq (kp : S32.Idx → F .f32) (x : S32.Idx) : kp x = knot kp (0 + (x 0).val) := by
  refine congrArg kp (funext fun a => ?_)
  match a with
  | 0 =>
    apply Fin.ext
    have : (x 0).val < 32 := (x 0).isLt
    show (x 0).val = min (0 + (x 0).val) 31
    omega

/-! ## A task's memory -/

/-- The keypoints' copy, the intercepts and the slopes. -/
abbrev b5 : Tbl := Memref.whole cc0_scratch0
abbrev b6 : Tbl := Memref.whole cc0_scratch1
abbrev b7 : Tbl := Memref.whole cc0_scratch2

/-- The two in blocks and the two out blocks. -/
abbrev b8 : Blk := Memref.whole cc0_scratch3
abbrev b9 : Blk := Memref.whole cc0_scratch4
abbrev b10 : Blk := Memref.whole cc0_scratch5
abbrev b11 : Blk := Memref.whole cc0_scratch6

/-- The part of the body that copies the keypoints and fills the tables' first sixteen lanes, at a task's memory. -/
abbrev part2 (i : grid0.Coords) := k0_part2 (F := F) i xW (Memref.isWhole_whole _) kW (Memref.isWhole_whole _) oW (Memref.isWhole_whole _)
  b5 (Memref.isWhole_whole _) b6 (Memref.isWhole_whole _) b7 (Memref.isWhole_whole _) b8 (Memref.isWhole_whole _) b9 (Memref.isWhole_whole _)
  b10 (Memref.isWhole_whole _) b11 (Memref.isWhole_whole _) cc0_scratch7 cc0_scratch8 cc0_scratch9 cc0_scratch10 cc0_scoped0

section Rules

variable (d : Dev nD) (i : grid0.Coords) {α : Type} {Q : α → sProp (MM F)}

/-- The keypoints, held for reading. -/
abbrev Knots (q : PosShare TreeShare) (kp : S32.Idx → F .f32) : sProp 𝕄 :=
  pointsTo (kLoc d) (Finset.univ : Finset S32.Idx) q (show S32.Idx → F .f32 from kp)

/-- The rectangle of the first 32 lanes. -/
abbrev head32 : Rect S128 := Rect.unit (s := S128) ![0] S32.size inb_S128_S32_0

/-- The credit of the keypoints' copy. -/
abbrev knotCredit : ℕ := sig.dmaCredit .scVector (Kind.scVector.table .vmem) (cc0_scratch0 : Ref sig .scVector).idx S32 .f32

/-- A side condition that holds. -/
theorem assume_ok {P : Prop} (h : P) {dec : Decidable P} {k : PLift P → TaskProg (F := F) i α} :
    run d i (k ⟨h⟩) Q ⊢ run d i (.op (.assume P dec) k) Q := Entails.of_eq (wp_assume_of _ _ _ _ h).symm

/-- Sixteen lanes from `o` on stored into a table filled up to `o`. -/
theorem store_lanes {t : Tbl} {g : ℕ → F .f32} {o : ℕ} {inb : ∀ a, (![o] : Fin 1 → ℕ) a + S16.size a ≤ S128.size a}
    {w : (Rect.unit (s := S128) ![o] S16.size inb).shape.Idx → F .f32} (hw : ∀ x, w x = g (o + (x 0).val))
    {h1 : (t.access (Rect.unit (s := S128) ![o] S16.size inb)).Stores Finset.univ}
    {h2 : (Finset.univ : Finset (Rect.unit (s := S128) ![o] S16.size inb).shape.Idx) = Finset.univ ∨ ∀ a, (Rect.unit (s := S128) ![o] S16.size inb).stride a = 1}
    {k : PUnit → TaskProg (F := F) i α} :
    Lanes d i t g o
      ⊢ iprop((Lanes d i t g (o + 16) -∗ run d i (k ⟨⟩) Q)
        -∗ run d i (.op (.store t (Rect.unit (s := S128) ![o] S16.size inb) w Finset.univ h1 h2) k) Q) := by
  unfold Lanes
  iintro ⟨%c, %hc, H⟩ Hk
  iapply (wp_store_writes₀ 𝒱₀ (thr d i) none Set.univ (m := t) (r := Rect.unit (s := S128) ![o] S16.size inb) (w := w)
    (S := Finset.univ) (Finset.subset_univ _)) $$ H
  iintro H
  iapply Hk
  iexists _; isplitr
  rotate_left
  · iexact H
  · ipureintro
    exact fill (o := o) (m := 16) (sz := S16.size) (inb := inb) (f := c) rfl hc hw

/-- Sixteen lanes loaded from a table, whatever they hold. -/
theorem load_lanes {t : Tbl} {g : ℕ → F .f32} {m : ℕ} {r : Rect S128} {h1} {k : (r.shape.Idx → F .f32) → TaskProg (F := F) i α} :
    Lanes d i t g m
      ⊢ iprop((∀ w, Lanes d i t g m -∗ run d i (k w) Q) -∗ run d i (.op (.load t r.toLoadRect h1) k) Q) := by
  unfold Lanes
  iintro ⟨%c, %hc, H⟩ Hk
  iapply (wp_load_rect 𝒱₀ (thr d i) none Set.univ (m := t) (r := r) (S := Finset.univ) (Finset.subset_univ _)) $$ H
  iintro H
  iapply Hk
  iexists c; isplitr
  · ipureintro; exact hc
  · iexact H

/-- Sixteen lanes gathered from a table at given lanes below 32. -/
theorem gather_lanes {t : Tbl} {g : ℕ → F .f32} {v : IVec S16 32} (hv : ∀ j, (v j).toNat < 32) {h h1}
    {k : Vec F S16 .f32 → TaskProg (F := F) i α} :
    Lanes d i t g 32
      ⊢ iprop((∀ w, ⌜∀ j, w j = g (v j).toNat⌝ -∗ Lanes d i t g 32 -∗ run d i (k w) Q)
        -∗ run d i (SparseCore.vectorLoadIdx t ![v] h h1 >>= k) Q) := by
  unfold Lanes
  iintro ⟨%c, %hc, H⟩ Hk
  iapply (SparseCore.wp_vectorLoadIdx 𝒱₀ (thr d i) none Set.univ (base := t) (S := Finset.univ) (q := fullShare) (Finset.subset_univ _)) $$ H
  iintro H
  iapply Hk
  · ipureintro; exact gathered t hc hv h
  iexists c; isplitr
  · ipureintro; exact hc
  · iexact H

/-- The keypoints' copy, issued: the copy holds the keypoints when it has landed. -/
theorem copy_knots {q : PosShare TreeShare} {kp : S32.Idx → F .f32} {s : DmaSems sig S_} {hsrc hdst hsem} {k : PUnit → TaskProg (F := F) i α} :
    iprop(Knots d q kp ∗ Room d i b5 ∗ Idle d i s)
      ⊢ iprop((Transfers.Flight countersEmb (thr d i) (.dma s.sem) (none : HIx 1) knotCredit iprop(Lanes d i b5 (knot kp) 32 ∗ Knots d q kp) -∗ run d i (k ⟨⟩) Q)
        -∗ run d i (.op (.enqueueDma kW (.here (b5.slice head32 (fun _ => rfl))) (.dma s.sem) hsrc hdst hsem) k) Q) := by
  unfold Room
  iintro ⟨Hx, ⟨%c, Hb⟩, Hs⟩ Hk
  have hset : kW.view.set = Finset.univ := (Memref.isWhole_whole _).set_eq_univ
  ihave Hx := (Entails.of_eq (show Knots d q kp = (kW.view.loc (thr d i) ↦[kW.view.set]{q} kp : sProp 𝕄) by rw [hset])) $$ Hx
  iapply (Transfers.wp_dmaLocal countersEmb 𝒱₀ (thr d i) none (Sd := Finset.univ) (none : HIx 1) knotCredit rfl
    (sig.dmaCredit_pos _ _ _ _ _ (by decide)) (Finset.subset_univ _)) $$ [Hx Hb Hs]
  · isplitl [Hx]; · iexact Hx
    isplitl [Hb]; · iexact Hb
    iexact Hs
  iintro Hf
  iapply Hk
  iapply (Transfers.Flight_mono countersEmb (thr d i) ?_) $$ Hf
  unfold Lanes
  iintro ⟨Hb, Hx⟩
  isplitl [Hb]
  · iexists _; isplitr
    rotate_left
    · iexact Hb
    · ipureintro
      exact fill (o := 0) (m := 32) (sz := S32.size) (inb := inb_S128_S32_0) rfl (fun j hj => absurd hj (Nat.not_lt_zero _)) (knot_eq kp)
  · rw [hset]; iexact Hx

/-- Waiting for the keypoints' copy. -/
theorem wait_knots {q : PosShare TreeShare} {kp : S32.Idx → F .f32} {s : DmaSems sig S_} {O : CellTallies nD τ sig (HIx 1)} {W : Waits sig (HIx 1)}
    {hsrc hdst} {k : PUnit → TaskProg (F := F) i α} :
    iprop(Transfers.Flight countersEmb (thr d i) (.dma s.sem) (none : HIx 1) knotCredit iprop(Lanes d i b5 (knot kp) 32 ∗ Knots d q kp)
        ∗ Owing d i O W ∗ Transfers.MayWaits (thr d i) (none : HIx 1) O)
      ⊢ iprop((iprop(Lanes d i b5 (knot kp) 32 ∗ Knots d q kp ∗ Idle d i s ∗ Owing d i O W) -∗ run d i (k ⟨⟩) Q)
        -∗ run d i (.op (.waitDma2 s.sem kW (b5.slice head32 (fun _ => rfl)) hsrc hdst) k) Q) := by
  unfold Owing
  iintro ⟨Hf, ⟨%W', %hW, HO⟩, Hmw⟩ Hk
  iapply (Transfers.wp_waitLocalO countersEmb 𝒱₀ (thr d i) none (none : HIx 1) rfl) $$ [Hf HO Hmw]
  · isplitl [Hf]; · iexact Hf
    isplitl [HO]; · iexact HO
    iapply (Transfers.MayWaits.elim _) $$ Hmw
  iintro ⟨⟨Hb, Hx⟩, Hs, HO⟩
  iapply Hk
  isplitl [Hb]; · iexact Hb
  isplitl [Hx]; · iexact Hx
  isplitl [Hs]; · iexact Hs
  iexists _; isplitr
  rotate_left
  · iexact HO
  · ipureintro
    intro p hp
    rcases Finset.mem_insert.mp hp with rfl | hp
    · exact .inr rfl
    · exact hW p hp

/-- A table holding anything is filled up to lane 0. -/
theorem room_lanes (t : Tbl) (g : ℕ → F .f32) : Room d i t ⊢ Lanes d i t g 0 := by
  unfold Room Lanes
  iintro ⟨%c, H⟩
  iexists c; isplitr
  · ipureintro; exact fun j hj => absurd hj (Nat.not_lt_zero _)
  · iexact H

/-- A table filled with anything holds something. -/
theorem lanes_room (t : Tbl) (g : ℕ → F .f32) (m : ℕ) : Lanes d i t g m ⊢ Room d i t := by
  unfold Room Lanes
  iintro ⟨%c, -, H⟩
  iexists c
  iexact H

/-- What the first part hands on: the lane numbers 16 to 31, their keypoints and steps, and 31.0. -/
def HandedOn (kp : S32.Idx → F .f32) (r : Σ' (_ : BitVec 32) (_ : IVec S16 32) (_ : Vec F S16 .f32) (_ : FVec F S16 .f32), F .f32) : Prop :=
  r.2.1 = k0_pay12 ∧ (∀ j, r.2.2.1 j = knot kp (16 + (j 0).val)) ∧ (∀ j, r.2.2.2.1 j = stepAt kp (16 + (j 0).val))
    ∧ r.2.2.2.2 = Scalar.ofBits .f32 0x41F80000#32

/-- The first part: the tables filled up to lane 16, and the values of lanes 16 to 31 handed on. -/
theorem part2_spec (q : PosShare TreeShare) (kp : S32.Idx → F .f32) (O : CellTallies nD τ sig (HIx 1)) (W : Waits sig (HIx 1)) :
    iprop(Knots d q kp ∗ Room d i b5 ∗ Room d i b6 ∗ Room d i b7 ∗ Idle d i cc0_scoped0 ∗ Owing d i O W ∗ Transfers.MayWaits (thr d i) (none : HIx 1) O)
      ⊢ run d i (part2 i) fun r => iprop(⌜HandedOn kp r⌝ ∗ Knots d q kp ∗ Room d i b5 ∗ Lanes d i b6 (interAt kp) 16 ∗ Lanes d i b7 (slopeAt kp) 16
          ∗ Idle d i cc0_scoped0 ∗ Owing d i O W) := by
  rw [part2, k0_part2_eq_skeleton]; unfold k0_part2_skel
  simp only [Prog.lift, Prog.bind_op, Prog.bind_ret, Prog.pure_eq_ret]
  iintro ⟨Hk, H5, H6, H7, Hs, HO, Hmw⟩
  ihave H6 := (room_lanes d i b6 (interAt kp)) $$ H6
  ihave H7 := (room_lanes d i b7 (slopeAt kp)) $$ H7
  iapply (copy_knots d i) $$ [Hk H5 Hs]
  · isplitl [Hk]; · iexact Hk
    isplitl [H5]; · iexact H5
    iexact Hs
  iintro Hf
  iapply (wait_knots d i) $$ [Hf HO Hmw]
  · isplitl [Hf]; · iexact Hf
    isplitl [HO]; · iexact HO
    iexact Hmw
  iintro ⟨H5, Hk, Hs, HO⟩
  iapply (assume_ok d i (show k0_chk1 k0_pay7 from chk_of pay7_lt))
  iapply (gather_lanes d i pay7_lt) $$ H5
  iintro %w6 %h6 H5
  iapply (assume_ok d i (show k0_chk2 (k0_pay8 k0_pay7) from chk_of pay8_lt))
  iapply (gather_lanes d i pay8_lt) $$ H5
  iintro %w11 %h11 H5
  iapply (load_lanes d i) $$ H7
  iintro %w15 H7
  iapply (store_lanes d i ?_) $$ H7
  · intro x
    show FloatOps.mulf (FloatOps.subf (w11 x) (w6 x)) _ = _
    rw [h11, h6, pay7_toNat, pay8_toNat, knot_min, Nat.zero_add]; rfl
  iintro H7
  iapply (load_lanes d i) $$ H6
  iintro %w19 H6
  iapply (store_lanes d i ?_) $$ H6
  · intro x
    show FloatOps.subf (w6 x) (FloatOps.mulf (FloatOps.sitofp .f32 (k0_pay7 x)) (FloatOps.subf (w11 x) (w6 x))) = _
    rw [h11, h6, pay7_eq, BitVec.toNat_ofNat, pay8_toNat, knot_min, Nat.zero_add, Nat.mod_eq_of_lt (lt_trans (x 0).isLt (by decide))]; rfl
  iintro H6
  iapply (assume_ok d i (show k0_chk3 k0_pay12 from chk_of pay12_lt))
  iapply (gather_lanes d i pay12_lt) $$ H5
  iintro %w23 %h23 H5
  iapply (assume_ok d i (show k0_chk4 (k0_pay13 k0_pay12) from chk_of pay13_lt))
  iapply (gather_lanes d i pay13_lt) $$ H5
  iintro %w28 %h28 H5
  unfold run; rw [wp_ret]; imodintro
  isplitr
  · ipureintro
    have hk (j : S16.Idx) : w23 j = knot kp (16 + (j 0).val) := by rw [h23, pay12_toNat]
    refine ⟨rfl, hk, fun j => ?_, rfl⟩
    show FloatOps.subf (w28 j) (w23 j) = _
    rw [hk, h28, pay13_toNat, knot_min]; rfl
  isplitl [Hk]; · iexact Hk
  isplitl [H5]
  · unfold Room Lanes
    icases H5 with ⟨%c, -, H5⟩
    iexists c; iexact H5
  isplitl [H6]; · iexact H6
  isplitl [H7]; · iexact H7
  isplitl [Hs]; · iexact Hs
  iexact HO

end Rules

end Cert.Proof.Pwl

end
-- ==== Proof.Stream.lean ====
/-
  A task's sixteen chunks as a stream: the chunks of x still to fetch and those already given back, the chunks of out
  still to write and those already written. The four transfer steps restated over them: each takes the next chunk.
-/
module

public import proofs.«01_k».proof.Proof.Tables

@[expose] public section

noncomputable section

namespace Cert.Proof.Pwl

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## The chunks still to go and the chunks done -/

/-- `P` for the chunks from `a` to the sixteenth, and for the first `a`. -/
def Rest (P : ℕ → sProp 𝕄) (a : ℕ) : sProp 𝕄 := bigSep (Finset.Ico a 16) P
def Done (P : ℕ → sProp 𝕄) (a : ℕ) : sProp 𝕄 := bigSep (Finset.range a) P

omit [FloatOps F] in
/-- All sixteen to go, none done; sixteen done. -/
theorem rest_all (P : ℕ → sProp 𝕄) : Rest P 0 = bigSep (Finset.range 16) P := by rw [Rest, Finset.range_eq_Ico]

omit [FloatOps F] in
theorem done_none (P : ℕ → sProp 𝕄) : Done P 0 = (iprop(emp) : sProp 𝕄) := by rw [Done, Finset.range_zero, bigSep_empty]; rfl

omit [FloatOps F] in
/-- None to go. -/
theorem rest_none (P : ℕ → sProp 𝕄) : Rest P 16 = (iprop(emp) : sProp 𝕄) := by rw [Rest, Finset.Ico_self, bigSep_empty]; rfl

omit [FloatOps F] in
/-- The next chunk, taken. -/
theorem rest_take (P : ℕ → sProp 𝕄) {a : ℕ} (h : a < 16) : Rest P a = iprop(P a ∗ Rest P (a + 1)) := by
  unfold Rest
  rw [← Finset.insert_Ico_add_one_left_eq_Ico h, bigSep_insert (by simp)]; rfl

omit [FloatOps F] in
/-- The next chunk, done. -/
theorem done_put (P : ℕ → sProp 𝕄) (a : ℕ) : Done P (a + 1) = iprop(P a ∗ Done P a) := by
  unfold Done
  rw [Finset.range_add_one, bigSep_insert Finset.notMem_range_self]; rfl

/-! ## The steps -/

section Steps

variable (d : Dev nD) (i : grid0.Coords)

/-- A task's chunk `g`, by its number in the whole array. -/
abbrev cn (g : ℕ) : ℕ := 16 * wid i + g

/-- The chunks of x still to fetch, and those given back. -/
abbrev XRest (X : S24576x512.Idx → F .f32) (a : ℕ) : sProp 𝕄 := Rest (fun g => xChunk d X (cn i g)) a
abbrev XDone (X : S24576x512.Idx → F .f32) (a : ℕ) : sProp 𝕄 := Done (fun g => xChunk d X (cn i g)) a

/-- The chunks of out still to write, and those written. -/
abbrev ORest (f : S24576x512.Idx → F .f32) (a : ℕ) : sProp 𝕄 := Rest (fun g => oChunk d f (cn i g)) a
abbrev ODone (G : S24576x512.Idx → F .f32) (a : ℕ) : sProp 𝕄 := Done (fun g => oChunk d G (cn i g)) a

variable {α : Type} {Q : α → sProp (MM F)} {off : Fin 2 → ℕ} {inb : ∀ a, off a + S48x512.size a ≤ S24576x512.size a} {a : ℕ}

/-- Starting to fetch the next chunk of x. -/
theorem fetch_next (ha : a < 16) (h : off = ![48 * (16 * wid i + a), 0]) {b : Blk} (hb : b.IsWhole) {s : DmaSems sig S_} {X : S24576x512.Idx → F .f32}
    {hsrc hdst hsem} {k : PUnit → TaskProg (F := F) i α} :
    iprop(XRest d i X a ∗ Free d i b ∗ Idle d i s)
      ⊢ iprop((iprop(XRest d i X (a + 1) ∗ Fetching d i s b X (cn i a)) -∗ run d i (k ⟨⟩) Q)
        -∗ run d i (.op (.enqueueDma (xW.slice (rows off inb) (fun _ => rfl)) (.here b) (.dma s.sem) hsrc hdst hsem) k) Q) := by
  rw [XRest, rest_take _ ha]
  iintro ⟨⟨Hc, HR⟩, Hb, Hs⟩ Hk
  iapply (start_fetch d i (n := cn i a) h hb) $$ [Hc Hb Hs]
  · isplitl [Hc]; · iexact Hc
    isplitl [Hb]; · iexact Hb
    iexact Hs
  iintro Hf
  iapply Hk
  isplitl [HR]; · iexact HR
  iexact Hf

/-- Waiting for the fetch of the next chunk of x. -/
theorem fetched {b : Blk} {s : DmaSems sig S_} {X : S24576x512.Idx → F .f32} {O : CellTallies nD τ sig (HIx 1)} {W : Waits sig (HIx 1)}
    {sp : Space} {s' : Shape} {e' : EltTy} {src : Memref sig .scVector sp s' e'} {hsrc : src.view.WordExact} {hdst : b.view.WordExact}
    {k : PUnit → TaskProg (F := F) i α} :
    iprop(XDone d i X a ∗ Fetching d i s b X (cn i a) ∗ Owing d i O W ∗ Transfers.MayWaits (thr d i) (none : HIx 1) O)
      ⊢ iprop((iprop(XDone d i X (a + 1) ∗ Holds d i b (cn i a) X ∗ Idle d i s ∗ Owing d i O W) -∗ run d i (k ⟨⟩) Q)
        -∗ run d i (.op (.waitDma2 s.sem src b hsrc hdst) k) Q) := by
  rw [XDone, XDone, done_put]
  iintro ⟨HD, Hf, HO, Hmw⟩ Hk
  iapply (wait_fetch d i) $$ [Hf HO Hmw]
  · isplitl [Hf]; · iexact Hf
    isplitl [HO]; · iexact HO
    iexact Hmw
  iintro ⟨Hb, Hc, Hs, HO⟩
  iapply Hk
  isplitl [Hc HD]
  · isplitl [Hc]; · iexact Hc
    iexact HD
  isplitl [Hb]; · iexact Hb
  isplitl [Hs]; · iexact Hs
  iexact HO

/-- Starting to write the next chunk of out. -/
theorem write_next (ha : a < 16) (h : off = ![48 * (16 * wid i + a), 0]) {b : Blk} (hb : b.IsWhole) {s : DmaSems sig S_} {G f : S24576x512.Idx → F .f32}
    {hsrc hdst hsem} {k : PUnit → TaskProg (F := F) i α} :
    iprop(ORest d i f a ∗ Holds d i b (cn i a) G ∗ Idle d i s)
      ⊢ iprop((iprop(ORest d i f (a + 1) ∗ Writing d i s b G (cn i a)) -∗ run d i (k ⟨⟩) Q)
        -∗ run d i (.op (.enqueueDma b (.here (oW.slice (rows off inb) (fun _ => rfl))) (.dma s.sem) hsrc hdst hsem) k) Q) := by
  rw [ORest, rest_take _ ha]
  iintro ⟨⟨Hc, HR⟩, Hb, Hs⟩ Hk
  iapply (start_write d i (n := cn i a) h hb) $$ [Hc Hb Hs]
  · isplitl [Hb]; · iexact Hb
    isplitl [Hc]; · iexact Hc
    iexact Hs
  iintro Hf
  iapply Hk
  isplitl [HR]; · iexact HR
  iexact Hf

/-- Waiting for the write-out of the next chunk of out. -/
theorem written {b : Blk} {s : DmaSems sig S_} {G : S24576x512.Idx → F .f32} {O : CellTallies nD τ sig (HIx 1)} {W : Waits sig (HIx 1)}
    {hsrc hdst} {k : PUnit → TaskProg (F := F) i α} :
    iprop(ODone d i G a ∗ Writing d i s b G (cn i a) ∗ Owing d i O W ∗ Transfers.MayWaits (thr d i) (none : HIx 1) O)
      ⊢ iprop((iprop(ODone d i G (a + 1) ∗ Free d i b ∗ Idle d i s ∗ Owing d i O W) -∗ run d i (k ⟨⟩) Q)
        -∗ run d i (.op (.waitDma2 s.sem b (oW.slice (rows off inb) (fun _ => rfl)) hsrc hdst) k) Q) := by
  rw [ODone, ODone, done_put]
  iintro ⟨HD, Hf, HO, Hmw⟩ Hk
  iapply (wait_write d i) $$ [Hf HO Hmw]
  · isplitl [Hf]; · iexact Hf
    isplitl [HO]; · iexact HO
    iexact Hmw
  iintro ⟨Hb, Hc, Hs, HO⟩
  iapply Hk
  isplitl [Hc HD]
  · isplitl [Hc]; · iexact Hc
    iexact HD
  isplitl [Hb]; · iexact Hb
  isplitl [Hs]; · iexact Hs
  iexact HO

end Steps

end Cert.Proof.Pwl

end
-- ==== Proof.Tile.lean ====
/-
  One task's body, at a symbolic core and subcore: the tables, then its sixteen chunks through two in blocks and two
  out blocks. Before trip `t` of the loop over pairs of chunks, chunks `2t + 2` and `2t + 3` are being fetched and
  chunks `2t` and `2t + 1` are being written.
-/
module

public import proofs.«01_k».proof.Proof.Stream

@[expose] public section

noncomputable section

namespace Cert.Proof.Pwl

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (d : Dev nD) (i : grid0.Coords) (kp : S32.Idx → F .f32) (X f : S24576x512.Idx → F .f32) (O : CellTallies nD τ sig (HIx 1)) (W : Waits sig (HIx 1))

/-! ## The body's pieces at a task's memory -/

abbrev part1 (v2 c e : BitVec 32) (t : Fin k0_t3_loop.trips) := k0_part1 (F := F) i xW (Memref.isWhole_whole _) kW (Memref.isWhole_whole _) oW (Memref.isWhole_whole _)
  b5 (Memref.isWhole_whole _) b6 (Memref.isWhole_whole _) b7 (Memref.isWhole_whole _) b8 (Memref.isWhole_whole _) b9 (Memref.isWhole_whole _)
  b10 (Memref.isWhole_whole _) b11 (Memref.isWhole_whole _) cc0_scratch7 cc0_scratch8 cc0_scratch9 cc0_scratch10 cc0_scoped0 v2 c e t
abbrev part3 (v2 : BitVec 32) (v22 : IVec S16 32) (v23 : Vec F S16 .f32) (v29 : FVec F S16 .f32) (k : F .f32) := k0_part3 (F := F) i xW (Memref.isWhole_whole _) kW (Memref.isWhole_whole _) oW (Memref.isWhole_whole _)
  b5 (Memref.isWhole_whole _) b6 (Memref.isWhole_whole _) b7 (Memref.isWhole_whole _) b8 (Memref.isWhole_whole _) b9 (Memref.isWhole_whole _)
  b10 (Memref.isWhole_whole _) b11 (Memref.isWhole_whole _) cc0_scratch7 cc0_scratch8 cc0_scratch9 cc0_scratch10 cc0_scoped0 v2 v22 v23 v29 k
abbrev pair (v2 c : BitVec 32) := k0_t3_body (F := F) i xW (Memref.isWhole_whole _) kW (Memref.isWhole_whole _) oW (Memref.isWhole_whole _)
  b5 (Memref.isWhole_whole _) b6 (Memref.isWhole_whole _) b7 (Memref.isWhole_whole _) b8 (Memref.isWhole_whole _) b9 (Memref.isWhole_whole _)
  b10 (Memref.isWhole_whole _) b11 (Memref.isWhole_whole _) cc0_scratch7 cc0_scratch8 cc0_scratch9 cc0_scratch10 cc0_scoped0 v2 c
abbrev part4 (v2 c : BitVec 32) := k0_part4 (F := F) i xW (Memref.isWhole_whole _) kW (Memref.isWhole_whole _) oW (Memref.isWhole_whole _)
  b5 (Memref.isWhole_whole _) b6 (Memref.isWhole_whole _) b7 (Memref.isWhole_whole _) b8 (Memref.isWhole_whole _) b9 (Memref.isWhole_whole _)
  b10 (Memref.isWhole_whole _) b11 (Memref.isWhole_whole _) cc0_scratch7 cc0_scratch8 cc0_scratch9 cc0_scratch10 cc0_scoped0 v2 c
abbrev body := cc0__body (F := F) i xW (Memref.isWhole_whole _) kW (Memref.isWhole_whole _) oW (Memref.isWhole_whole _)
  b5 (Memref.isWhole_whole _) b6 (Memref.isWhole_whole _) b7 (Memref.isWhole_whole _) b8 (Memref.isWhole_whole _) b9 (Memref.isWhole_whole _)
  b10 (Memref.isWhole_whole _) b11 (Memref.isWhole_whole _) cc0_scratch7 cc0_scratch8 cc0_scratch9 cc0_scratch10 cc0_scoped0

/-! ## The start of the stream -/

/-- The second part: the tables are finished, chunk 0 is computed and being written, chunk 1 is fetched, and chunk 2 is
    being fetched. -/
theorem part3_spec (v2 : BitVec 32) (v22 : IVec S16 32) (v23 : Vec F S16 .f32) (v29 : FVec F S16 .f32) (k : F .f32)
    (h : HandedOn kp ⟨v2, v22, v23, v29, k⟩) :
    iprop(Transfers.MayWaits (thr d i) (none : HIx 1) O ∗ Lanes d i b6 (interAt kp) 16 ∗ Lanes d i b7 (slopeAt kp) 16 ∗ Free d i b8 ∗ Free d i b9 ∗ Free d i b10
        ∗ Idle d i cc0_scratch7 ∗ Idle d i cc0_scratch8 ∗ Idle d i cc0_scratch9
        ∗ XRest d i X 0 ∗ XDone d i X 0 ∗ ORest d i f 0 ∗ Owing d i O W)
      ⊢ run d i (part3 i v2 v22 v23 v29 k) fun _ => iprop(Table d i b6 (interAt kp) ∗ Table d i b7 (slopeAt kp)
          ∗ Fetching d i cc0_scratch7 b8 X (cn i 2) ∗ Holds d i b9 (cn i 1) X ∗ Idle d i cc0_scratch8 ∗ Writing d i cc0_scratch9 b10 (outVal kp X) (cn i 0)
          ∗ XRest d i X 3 ∗ XDone d i X 2 ∗ ORest d i f 1 ∗ Owing d i O W) := by
  obtain ⟨e22, e23, e29, ek⟩ := h
  dsimp only at e22 e23 e29 ek
  subst e22 ek
  rw [part3, k0_part3_eq_skeleton]; unfold k0_part3_skel
  rw [t1_eq]
  simp only [Prog.lift, Prog.bind_op, Prog.bind_ret, Prog.pure_eq_ret]
  iintro ⟨#Hmw, H6, H7, H8, H9, H10, S12, S13, S14, HX, HXd, HR, HO⟩
  iapply (load_lanes d i) $$ H7
  iintro %w32 H7
  iapply (store_lanes d i ?_) $$ H7
  · intro x
    show FloatOps.mulf (v29 x) _ = _
    rw [e29]; rfl
  iintro H7
  iapply (load_lanes d i) $$ H6
  iintro %w36 H6
  iapply (store_lanes d i ?_) $$ H6
  · intro x
    show FloatOps.subf (v23 x) (FloatOps.mulf (FloatOps.sitofp .f32 (k0_pay12 x)) (v29 x)) = _
    rw [e23, e29, pay12_eq]; rfl
  iintro H6
  iapply (fetch_next d i (a := 0) (by decide) (off1_eq i 0) (b := b8) (Memref.isWhole_whole _)) $$ [HX H8 S12]
  · isplitl [HX]; · iexact HX
    isplitl [H8]; · iexact H8
    iexact S12
  iintro ⟨HX, S12⟩
  iapply (fetch_next d i (a := 1) (by decide) (off1_eq i 1) (b := b9) (Memref.isWhole_whole _)) $$ [HX H9 S13]
  · isplitl [HX]; · iexact HX
    isplitl [H9]; · iexact H9
    iexact S13
  iintro ⟨HX, S13⟩
  iapply (fetched d i (a := 0) (b := b8)) $$ [HXd S12 HO]
  · isplitl [HXd]; · iexact HXd
    isplitl [S12]; · iexact S12
    isplitl [HO]; · iexact HO
    iexact Hmw
  iintro ⟨HXd, H8, S12, HO⟩
  iapply (compute d i kp) $$ [H8 H10 H6 H7]
  · isplitl [H8]; · iexact H8
    isplitl [H10]; · iexact H10
    isplitl [H6]; · iexact H6
    iexact H7
  iintro ⟨H8, H10, H6, H7⟩
  iapply (write_next d i (a := 0) (by decide) (off1_eq i 0) (b := b10) (Memref.isWhole_whole _)) $$ [HR H10 S14]
  · isplitl [HR]; · iexact HR
    isplitl [H10]; · iexact H10
    iexact S14
  iintro ⟨HR, S14⟩
  iapply (fetch_next d i (a := 2) (by decide) (off1_eq i 2) (b := b8) (Memref.isWhole_whole _)) $$ [HX H8 S12]
  · isplitl [HX]; · iexact HX
    isplitl [H8]; · iexact H8
    iexact S12
  iintro ⟨HX, S12⟩
  iapply (fetched d i (a := 1) (b := b9)) $$ [HXd S13 HO]
  · isplitl [HXd]; · iexact HXd
    isplitl [S13]; · iexact S13
    isplitl [HO]; · iexact HO
    iexact Hmw
  iintro ⟨HXd, H9, S13, HO⟩
  unfold run; rw [wp_ret]; imodintro
  isplitl [H6]; · iexact H6
  isplitl [H7]; · iexact H7
  isplitl [S12]; · iexact S12
  isplitl [H9]; · iexact H9
  isplitl [S13]; · iexact S13
  isplitl [S14]; · iexact S14
  isplitl [HX]; · iexact HX
  isplitl [HXd]; · iexact HXd
  isplitl [HR]; · iexact HR
  iexact HO

/-! ## The loop over pairs of chunks -/

/-- What the loop holds before trip `t`. -/
def pairInv (t : ℕ) (_ : Unit) : sProp 𝕄 :=
  iprop(Transfers.MayWaits (thr d i) (none : HIx 1) O ∗ Table d i b6 (interAt kp) ∗ Table d i b7 (slopeAt kp)
    ∗ Fetching d i cc0_scratch7 b8 X (cn i (2 * t + 2)) ∗ Fetching d i cc0_scratch8 b9 X (cn i (2 * t + 3))
    ∗ Writing d i cc0_scratch9 b10 (outVal kp X) (cn i (2 * t)) ∗ Writing d i cc0_scratch10 b11 (outVal kp X) (cn i (2 * t + 1))
    ∗ XRest d i X (2 * t + 4) ∗ XDone d i X (2 * t + 2) ∗ ORest d i f (2 * t + 2) ∗ ODone d i (outVal kp X) (2 * t) ∗ Owing d i O W)

/-- The first half of a trip: chunk `2t` is written, chunk `2t + 2` computed and being written, `2t + 4` being fetched. -/
theorem part1_spec (v2 c e : BitVec 32) (t : Fin k0_t3_loop.trips) :
    iprop(Transfers.MayWaits (thr d i) (none : HIx 1) O ∗ Table d i b6 (interAt kp) ∗ Table d i b7 (slopeAt kp) ∗ Fetching d i cc0_scratch7 b8 X (cn i (2 * t.val + 2)) ∗ Writing d i cc0_scratch9 b10 (outVal kp X) (cn i (2 * t.val))
        ∗ XRest d i X (2 * t.val + 4) ∗ XDone d i X (2 * t.val + 2) ∗ ORest d i f (2 * t.val + 2) ∗ ODone d i (outVal kp X) (2 * t.val) ∗ Owing d i O W)
      ⊢ run d i (part1 i v2 c e t) fun _ => iprop(Table d i b6 (interAt kp) ∗ Table d i b7 (slopeAt kp) ∗ Fetching d i cc0_scratch7 b8 X (cn i (2 * t.val + 4)) ∗ Writing d i cc0_scratch9 b10 (outVal kp X) (cn i (2 * t.val + 2))
        ∗ XRest d i X (2 * t.val + 5) ∗ XDone d i X (2 * t.val + 3) ∗ ORest d i f (2 * t.val + 3) ∗ ODone d i (outVal kp X) (2 * t.val + 1) ∗ Owing d i O W) := by
  have ht : t.val < 6 := t.isLt.trans_le (by decide +kernel)
  rw [part1, k0_part1_eq_skeleton]; unfold k0_part1_skel
  rw [t4_eq]
  simp only [Prog.lift, Prog.bind_op, Prog.bind_ret, Prog.pure_eq_ret]
  iintro ⟨#Hmw, H6, H7, S12, S14, HX, HXd, HR, HRd, HO⟩
  iapply (written d i (a := (2 * t.val)) (b := b10)) $$ [HRd S14 HO]
  · isplitl [HRd]; · iexact HRd
    isplitl [S14]; · iexact S14
    isplitl [HO]; · iexact HO
    iexact Hmw
  iintro ⟨HRd, H10, S14, HO⟩
  iapply (fetched d i (a := (2 * t.val + 2)) (b := b8)) $$ [HXd S12 HO]
  · isplitl [HXd]; · iexact HXd
    isplitl [S12]; · iexact S12
    isplitl [HO]; · iexact HO
    iexact Hmw
  iintro ⟨HXd, H8, S12, HO⟩
  iapply (compute d i kp) $$ [H8 H10 H6 H7]
  · isplitl [H8]; · iexact H8
    isplitl [H10]; · iexact H10
    isplitl [H6]; · iexact H6
    iexact H7
  iintro ⟨H8, H10, H6, H7⟩
  iapply (write_next d i (a := (2 * t.val + 2)) (by omega) (off7_eq i t 0) (b := b10) (Memref.isWhole_whole _)) $$ [HR H10 S14]
  · isplitl [HR]; · iexact HR
    isplitl [H10]; · iexact H10
    iexact S14
  iintro ⟨HR, S14⟩
  iapply (fetch_next d i (a := (2 * t.val + 4)) (by omega) (off10_eq i t 0) (b := b8) (Memref.isWhole_whole _)) $$ [HX H8 S12]
  · isplitl [HX]; · iexact HX
    isplitl [H8]; · iexact H8
    iexact S12
  iintro ⟨HX, S12⟩
  unfold run; rw [wp_ret]; imodintro
  isplitl [H6]; · iexact H6
  isplitl [H7]; · iexact H7
  isplitl [S12]; · iexact S12
  isplitl [S14]; · iexact S14
  isplitl [HX]; · iexact HX
  isplitl [HXd]; · iexact HXd
  isplitl [HR]; · iexact HR
  isplitl [HRd]; · iexact HRd
  iexact HO

/-- A trip keeps what the loop holds. -/
theorem pair_spec (v2 c : BitVec 32) (t : Fin k0_t3_loop.trips) (u : Unit) :
    pairInv d i kp X f O W t.val u ⊢ run d i (pair i v2 c t u) fun r => pairInv d i kp X f O W (t.val + 1) r := by
  have ht : t.val < 6 := t.isLt.trans_le (by decide +kernel)
  unfold pairInv
  rw [pair]; unfold k0_t3_body run
  rw [wp_bind]
  iintro ⟨#Hmw, H6, H7, S12, S13, S14, S15, HX, HXd, HR, HRd, HO⟩
  iapply (wp_wand frame _ _) $$ [H6 H7 S12 S14 HX HXd HR HRd HO]
  · iapply (part1_spec d i kp X f O W v2 1#32 1#32 t)
    isplitr; · iexact Hmw
    isplitl [H6]; · iexact H6
    isplitl [H7]; · iexact H7
    isplitl [S12]; · iexact S12
    isplitl [S14]; · iexact S14
    isplitl [HX]; · iexact HX
    isplitl [HXd]; · iexact HXd
    isplitl [HR]; · iexact HR
    isplitl [HRd]; · iexact HRd
    iexact HO
  iintro %v ⟨H6, H7, S12, S14, HX, HXd, HR, HRd, HO⟩
  rw [t5_eq]
  simp only [Prog.lift, Prog.bind_op, Prog.bind_ret, Prog.pure_eq_ret]
  iapply (written d i (a := (2 * t.val + 1)) (b := b11)) $$ [HRd S15 HO]
  · isplitl [HRd]; · iexact HRd
    isplitl [S15]; · iexact S15
    isplitl [HO]; · iexact HO
    iexact Hmw
  iintro ⟨HRd, H11, S15, HO⟩
  iapply (fetched d i (a := (2 * t.val + 3)) (b := b9)) $$ [HXd S13 HO]
  · isplitl [HXd]; · iexact HXd
    isplitl [S13]; · iexact S13
    isplitl [HO]; · iexact HO
    iexact Hmw
  iintro ⟨HXd, H9, S13, HO⟩
  iapply (compute d i kp) $$ [H9 H11 H6 H7]
  · isplitl [H9]; · iexact H9
    isplitl [H11]; · iexact H11
    isplitl [H6]; · iexact H6
    iexact H7
  iintro ⟨H9, H11, H6, H7⟩
  iapply (write_next d i (a := (2 * t.val + 3)) (by omega) (off7_eq i t 1) (b := b11) (Memref.isWhole_whole _)) $$ [HR H11 S15]
  · isplitl [HR]; · iexact HR
    isplitl [H11]; · iexact H11
    iexact S15
  iintro ⟨HR, S15⟩
  iapply (fetch_next d i (a := (2 * t.val + 5)) (by omega) (off10_eq i t 1) (b := b9) (Memref.isWhole_whole _)) $$ [HX H9 S13]
  · isplitl [HX]; · iexact HX
    isplitl [H9]; · iexact H9
    iexact S13
  iintro ⟨HX, S13⟩
  rw [show 2 * (t.val + 1) = 2 * t.val + 2 by omega]
  unfold run; rw [wp_ret]; imodintro
  isplitr; · iexact Hmw
  isplitl [H6]; · iexact H6
  isplitl [H7]; · iexact H7
  isplitl [S12]; · iexact S12
  isplitl [S13]; · iexact S13
  isplitl [S14]; · iexact S14
  isplitl [S15]; · iexact S15
  isplitl [HX]; · iexact HX
  isplitl [HXd]; · iexact HXd
  isplitl [HR]; · iexact HR
  isplitl [HRd]; · iexact HRd
  iexact HO

/-! ## The rest of the stream -/

/-- The third part: chunks 1 to 14 computed and up to 13 written, chunk 15 being fetched and chunk 14 being written. -/
theorem part4_spec (v2 c : BitVec 32) :
    iprop(Transfers.MayWaits (thr d i) (none : HIx 1) O ∗ Table d i b6 (interAt kp) ∗ Table d i b7 (slopeAt kp)
        ∗ Fetching d i cc0_scratch7 b8 X (cn i 2) ∗ Holds d i b9 (cn i 1) X ∗ Idle d i cc0_scratch8 ∗ Writing d i cc0_scratch9 b10 (outVal kp X) (cn i 0)
        ∗ Free d i b11 ∗ Idle d i cc0_scratch10
        ∗ XRest d i X 3 ∗ XDone d i X 2 ∗ ORest d i f 1 ∗ ODone d i (outVal kp X) 0 ∗ Owing d i O W)
      ⊢ run d i (part4 i v2 c) fun _ => iprop(Table d i b6 (interAt kp) ∗ Table d i b7 (slopeAt kp)
          ∗ Free d i b8 ∗ Idle d i cc0_scratch7 ∗ Fetching d i cc0_scratch8 b9 X (cn i 15) ∗ Writing d i cc0_scratch9 b10 (outVal kp X) (cn i 14)
          ∗ Free d i b11 ∗ Idle d i cc0_scratch10
          ∗ XRest d i X 16 ∗ XDone d i X 15 ∗ ORest d i f 15 ∗ ODone d i (outVal kp X) 14 ∗ Owing d i O W) := by
  rw [part4, k0_part4_eq_skeleton]; unfold k0_part4_skel
  rw [t2_eq, t6_eq]
  simp only [Prog.lift, Prog.bind_op, Prog.bind_ret, Prog.pure_eq_ret]
  iintro ⟨#Hmw, H6, H7, S12, H9, S13, S14, H11, S15, HX, HXd, HR, HRd, HO⟩
  iapply (compute d i kp) $$ [H9 H11 H6 H7]
  · isplitl [H9]; · iexact H9
    isplitl [H11]; · iexact H11
    isplitl [H6]; · iexact H6
    iexact H7
  iintro ⟨H9, H11, H6, H7⟩
  iapply (write_next d i (a := 1) (by decide) (off1_eq i 1) (b := b11) (Memref.isWhole_whole _)) $$ [HR H11 S15]
  · isplitl [HR]; · iexact HR
    isplitl [H11]; · iexact H11
    iexact S15
  iintro ⟨HR, S15⟩
  iapply (fetch_next d i (a := 3) (by decide) (off1_eq i 3) (b := b9) (Memref.isWhole_whole _)) $$ [HX H9 S13]
  · isplitl [HX]; · iexact HX
    isplitl [H9]; · iexact H9
    iexact S13
  iintro ⟨HX, S13⟩
  iapply (Scf.wp_for_bind frame (wpE (defs₀ (F := F)) 𝒱₀ (thr d i) none) Set.univ
    k0_t3_loop.lb k0_t3_loop.ub k0_t3_loop.st k0_t3_ok ⟨⟩ (pair i v2 c) (pairInv d i kp X f O W)
    (pair_spec d i kp X f O W v2 c)) $$ [H6 H7 S12 S13 S14 S15 HX HXd HR HRd HO]
  · unfold pairInv
    isplitr; · iexact Hmw
    isplitl [H6]; · iexact H6
    isplitl [H7]; · iexact H7
    isplitl [S12]; · iexact S12
    isplitl [S13]; · iexact S13
    isplitl [S14]; · iexact S14
    isplitl [S15]; · iexact S15
    isplitl [HX]; · iexact HX
    isplitl [HXd]; · iexact HXd
    isplitl [HR]; · iexact HR
    isplitl [HRd]; · iexact HRd
    iexact HO
  iintro %r HI
  ihave HI := (Entails.of_eq (show pairInv d i kp X f O W (Scf.trips k0_t3_loop.lb k0_t3_loop.ub k0_t3_loop.st) r = pairInv d i kp X f O W 6 r from
    congrArg (fun n => pairInv d i kp X f O W n r) (show Scf.trips k0_t3_loop.lb k0_t3_loop.ub k0_t3_loop.st = 6 by decide +kernel))) $$ HI
  unfold pairInv
  icases HI with ⟨-, H6, H7, S12, S13, S14, S15, HX, HXd, HR, HRd, HO⟩
  iapply (written d i (a := 12) (b := b10)) $$ [HRd S14 HO]
  · isplitl [HRd]; · iexact HRd
    isplitl [S14]; · iexact S14
    isplitl [HO]; · iexact HO
    iexact Hmw
  iintro ⟨HRd, H10, S14, HO⟩
  iapply (fetched d i (a := 14) (b := b8)) $$ [HXd S12 HO]
  · isplitl [HXd]; · iexact HXd
    isplitl [S12]; · iexact S12
    isplitl [HO]; · iexact HO
    iexact Hmw
  iintro ⟨HXd, H8, S12, HO⟩
  iapply (compute d i kp) $$ [H8 H10 H6 H7]
  · isplitl [H8]; · iexact H8
    isplitl [H10]; · iexact H10
    isplitl [H6]; · iexact H6
    iexact H7
  iintro ⟨H8, H10, H6, H7⟩
  iapply (write_next d i (a := 14) (by decide) (off1_eq i 14) (b := b10) (Memref.isWhole_whole _)) $$ [HR H10 S14]
  · isplitl [HR]; · iexact HR
    isplitl [H10]; · iexact H10
    iexact S14
  iintro ⟨HR, S14⟩
  iapply (written d i (a := 13) (b := b11)) $$ [HRd S15 HO]
  · isplitl [HRd]; · iexact HRd
    isplitl [S15]; · iexact S15
    isplitl [HO]; · iexact HO
    iexact Hmw
  iintro ⟨HRd, H11, S15, HO⟩
  unfold run; rw [wp_ret]; imodintro
  isplitl [H6]; · iexact H6
  isplitl [H7]; · iexact H7
  isplitl [H8]; · iexact H8
  isplitl [S12]; · iexact S12
  isplitl [S13]; · iexact S13
  isplitl [S14]; · iexact S14
  isplitl [H11]; · iexact H11
  isplitl [S15]; · iexact S15
  isplitl [HX]; · iexact HX
  isplitl [HXd]; · iexact HXd
  isplitl [HR]; · iexact HR
  isplitl [HRd]; · iexact HRd
  iexact HO

/-- The whole body: from x's sixteen chunks, the keypoints (for reading) and out's sixteen chunks, with the task's memory
    and semaphores, to out's chunks at the out array's values and everything else given back. -/
theorem body_spec (q : PosShare TreeShare) :
    iprop(Transfers.MayWaits (thr d i) (none : HIx 1) O ∗ Knots d q kp ∗ XRest d i X 0 ∗ ORest d i f 0
        ∗ Room d i b5 ∗ Room d i b6 ∗ Room d i b7 ∗ Free d i b8 ∗ Free d i b9 ∗ Free d i b10 ∗ Free d i b11
        ∗ Idle d i cc0_scratch7 ∗ Idle d i cc0_scratch8 ∗ Idle d i cc0_scratch9 ∗ Idle d i cc0_scratch10 ∗ Idle d i cc0_scoped0 ∗ Owing d i O W)
      ⊢ run d i (body i) fun _ => iprop(Knots d q kp ∗ XDone d i X 16 ∗ ODone d i (outVal kp X) 16
        ∗ Room d i b5 ∗ Room d i b6 ∗ Room d i b7 ∗ Free d i b8 ∗ Free d i b9 ∗ Free d i b10 ∗ Free d i b11
        ∗ Idle d i cc0_scratch7 ∗ Idle d i cc0_scratch8 ∗ Idle d i cc0_scratch9 ∗ Idle d i cc0_scratch10 ∗ Idle d i cc0_scoped0 ∗ Owing d i O W) := by
  rw [body, cc0__body_eq_skeleton]; unfold cc0__body_skel run
  rw [wp_bind]
  iintro ⟨#Hmw, HK, HX, HR, H5, H6, H7, H8, H9, H10, H11, S12, S13, S14, S15, S0, HO⟩
  iapply (wp_wand frame _ _) $$ [HK H5 H6 H7 S0 HO]
  · iapply (part2_spec d i q kp O W)
    isplitl [HK]; · iexact HK
    isplitl [H5]; · iexact H5
    isplitl [H6]; · iexact H6
    isplitl [H7]; · iexact H7
    isplitl [S0]; · iexact S0
    isplitl [HO]; · iexact HO
    iexact Hmw
  iintro %r ⟨%hr, HK, H5, H6, H7, S0, HO⟩
  obtain ⟨v2, v22, v23, v29, k⟩ := r
  dsimp only
  rw [wp_bind]
  iapply (wp_wand frame _ _) $$ [H6 H7 H8 H9 H10 S12 S13 S14 HX HR HO]
  · iapply (part3_spec d i kp X f O W v2 v22 v23 v29 k hr)
    isplitr; · iexact Hmw
    isplitl [H6]; · iexact H6
    isplitl [H7]; · iexact H7
    isplitl [H8]; · iexact H8
    isplitl [H9]; · iexact H9
    isplitl [H10]; · iexact H10
    isplitl [S12]; · iexact S12
    isplitl [S13]; · iexact S13
    isplitl [S14]; · iexact S14
    isplitl [HX]; · iexact HX
    isplitr; · rw [XDone, done_none]; iempintro
    isplitl [HR]; · iexact HR
    iexact HO
  iintro %c ⟨H6, H7, S12, H9, S13, S14, HX, HXd, HR, HO⟩
  rw [wp_bind]
  iapply (wp_wand frame _ _) $$ [H6 H7 S12 H9 S13 S14 H11 S15 HX HXd HR HO]
  · iapply (part4_spec d i kp X f O W v2 c)
    isplitr; · iexact Hmw
    isplitl [H6]; · iexact H6
    isplitl [H7]; · iexact H7
    isplitl [S12]; · iexact S12
    isplitl [H9]; · iexact H9
    isplitl [S13]; · iexact S13
    isplitl [S14]; · iexact S14
    isplitl [H11]; · iexact H11
    isplitl [S15]; · iexact S15
    isplitl [HX]; · iexact HX
    isplitl [HXd]; · iexact HXd
    isplitl [HR]; · iexact HR
    isplitr; · rw [ODone, done_none]; iempintro
    iexact HO
  iintro %u ⟨H6, H7, H8, S12, S13, S14, H11, S15, HX, HXd, HR, HRd, HO⟩
  rw [t7_eq]
  simp only [Prog.lift, Prog.bind_op, Prog.bind_ret, Prog.pure_eq_ret]
  iapply (fetched d i (a := 15) (b := b9)) $$ [HXd S13 HO]
  · isplitl [HXd]; · iexact HXd
    isplitl [S13]; · iexact S13
    isplitl [HO]; · iexact HO
    iexact Hmw
  iintro ⟨HXd, H9, S13, HO⟩
  iapply (compute d i kp) $$ [H9 H11 H6 H7]
  · isplitl [H9]; · iexact H9
    isplitl [H11]; · iexact H11
    isplitl [H6]; · iexact H6
    iexact H7
  iintro ⟨H9, H11, H6, H7⟩
  iapply (write_next d i (a := 15) (by decide) (off1_eq i 15) (b := b11) (Memref.isWhole_whole _)) $$ [HR H11 S15]
  · isplitl [HR]; · iexact HR
    isplitl [H11]; · iexact H11
    iexact S15
  iintro ⟨HR, S15⟩
  iapply (written d i (a := 14) (b := b10)) $$ [HRd S14 HO]
  · isplitl [HRd]; · iexact HRd
    isplitl [S14]; · iexact S14
    isplitl [HO]; · iexact HO
    iexact Hmw
  iintro ⟨HRd, H10, S14, HO⟩
  iapply (written d i (a := 15) (b := b11)) $$ [HRd S15 HO]
  · isplitl [HRd]; · iexact HRd
    isplitl [S15]; · iexact S15
    isplitl [HO]; · iexact HO
    iexact Hmw
  iintro ⟨HRd, H11, S15, HO⟩
  ihave H6 := (lanes_room d i b6 _ _) $$ H6
  ihave H7 := (lanes_room d i b7 _ _) $$ H7
  unfold run; rw [wp_ret]; imodintro
  isplitl [HK]; · iexact HK
  isplitl [HXd]; · iexact HXd
  isplitl [HRd]; · iexact HRd
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S12]; · iexact S12
  isplitl [S13]; · iexact S13
  isplitl [S14]; · iexact S14
  isplitl [S15]; · iexact S15
  isplitl [S0]; · iexact S0
  iexact HO

end Cert.Proof.Pwl

end
-- ==== Proof.Launch.lean ====
/-
  The launch of the thirty-two tasks. A task is given its sixteen chunks of x, its sixteen chunks of out and a share
  of the keypoints; a SparseCore is given what its sixteen tasks are given, so dealing to the tasks is nothing but
  reading the list. What a task does with it is `body_spec`; here it is put in the shape the launch asks for.
-/
module

public import proofs.«01_k».proof.Proof.Tile

@[expose] public section

noncomputable section

namespace Cert.Proof.Pwl

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds (initOf)
open Idealize.ShloMosaic.SparseCore.Cfg (ownSems0 ownBufs mem_ownCells ownCells ownRefs scopedBufs_V)

variable {F : FTy → Type} [FloatOps F]

local notation "𝕄" => MM F

/-! ## A task's own memory -/

section Own

variable (d : Dev nD) (c : Fin τ.nSC) (s : Fin τ.nSub)

/-- A semaphore cell of a task. -/
abbrev cell (e : DmaSems sig S_) : GSem nD τ sig := (V d c s, .dma e.sem)

/-- The semaphore cells a task has beside the five the kernel names. -/
abbrev otherCells : Finset (GSem nD τ sig) :=
  (((((ownCells (V d c s)).erase (cell d c s cc0_scratch7)).erase (cell d c s cc0_scratch8)).erase (cell d c s cc0_scratch9)).erase
    (cell d c s cc0_scratch10)).erase (cell d c s cc0_scoped0)

omit [FloatOps F] in
/-- Cells of one task at different semaphores differ. -/
theorem cell_ne {e e' : DmaSems sig S_} (h : e.sem ≠ e'.sem) : cell d c s e ≠ cell d c s e' :=
  fun H => h (SemLoc.dma.inj (Prod.mk.inj H).2)

omit [FloatOps F] in
/-- A task's semaphores are the kernel's five and the others. -/
theorem ownSems0_task :
    (ownSems0 (V d c s) : sProp 𝕄)
      = iprop(semVal (cell d c s cc0_scratch7) 0 ∗ semVal (cell d c s cc0_scratch8) 0 ∗ semVal (cell d c s cc0_scratch9) 0
          ∗ semVal (cell d c s cc0_scratch10) 0 ∗ semVal (cell d c s cc0_scoped0) 0
          ∗ bigSep (otherCells d c s) fun g => semVal g 0) := by
  have own (e : DmaSems sig S_) (h : (SemLoc.dma e.sem : SemLoc sig).isScoped .scVector = true) : cell d c s e ∈ ownCells (V d c s) :=
    (mem_ownCells (g := cell d c s e)).mpr ⟨rfl, h⟩
  unfold SparseCore.Cfg.ownSems0
  rw [SparseCore.bigSep_erase' (own cc0_scratch7 (by decide)),
    SparseCore.bigSep_erase' (Finset.mem_erase.mpr ⟨cell_ne d c s (by decide), own cc0_scratch8 (by decide)⟩),
    SparseCore.bigSep_erase' (Finset.mem_erase.mpr ⟨cell_ne d c s (by decide), Finset.mem_erase.mpr ⟨cell_ne d c s (by decide),
      own cc0_scratch9 (by decide)⟩⟩),
    SparseCore.bigSep_erase' (Finset.mem_erase.mpr ⟨cell_ne d c s (by decide), Finset.mem_erase.mpr ⟨cell_ne d c s (by decide),
      Finset.mem_erase.mpr ⟨cell_ne d c s (by decide), own cc0_scratch10 (by decide)⟩⟩⟩),
    SparseCore.bigSep_erase' (Finset.mem_erase.mpr ⟨cell_ne d c s (by decide), Finset.mem_erase.mpr ⟨cell_ne d c s (by decide),
      Finset.mem_erase.mpr ⟨cell_ne d c s (by decide), Finset.mem_erase.mpr ⟨cell_ne d c s (by decide), own cc0_scoped0 (by decide)⟩⟩⟩⟩)]

/-- A buffer of a task, as the device's. -/
abbrev bufOf (b : Ref sig .scVector) : DevRef τ sig := (Proc.scVector c s).devRef b

/-- The buffers a task has beside the seven the kernel names. -/
abbrev otherBufs : Finset (DevRef τ sig) :=
  (((((((ownRefs (τ := τ) (.scVector c s)).erase (bufOf c s cc0_scratch0)).erase (bufOf c s cc0_scratch1)).erase (bufOf c s cc0_scratch2)).erase
    (bufOf c s cc0_scratch3)).erase (bufOf c s cc0_scratch4)).erase (bufOf c s cc0_scratch5)).erase (bufOf c s cc0_scratch6)

/-- A buffer of a task, holding anything. -/
abbrev Any (b : Ref sig .scVector) : sProp 𝕄 := iprop(∃ f, (V d c s).loc b ↦{fullShare} f)

omit [FloatOps F] in
theorem bufOf_ne {b b' : Ref sig .scVector} (h : b ≠ b') : bufOf c s b ≠ bufOf c s b' := fun H => h (Proc.devRef_injective _ H)

omit [FloatOps F] in
/-- A task's buffers are the kernel's seven and the others. -/
theorem ownBufs_task :
    (ownBufs (V d c s) : sProp 𝕄)
      = iprop(Any d c s cc0_scratch0 ∗ Any d c s cc0_scratch1 ∗ Any d c s cc0_scratch2 ∗ Any d c s cc0_scratch3
          ∗ Any d c s cc0_scratch4 ∗ Any d c s cc0_scratch5 ∗ Any d c s cc0_scratch6
          ∗ bigSep (otherBufs c s) fun b => iprop(∃ f, ((d, b) : Loc nD τ sig) ↦{fullShare} f)) := by
  have own (b : Ref sig .scVector) (h : (bufOf c s b).owner = .proc (.scVector c s)) : bufOf c s b ∈ ownRefs (τ := τ) (.scVector c s) :=
    SparseCore.Cfg.mem_ownRefs_of_owner h
  have skip {b b' : Ref sig .scVector} {A : Finset (DevRef τ sig)} (h : b ≠ b') (hA : bufOf c s b ∈ A) : bufOf c s b ∈ A.erase (bufOf c s b') :=
    Finset.mem_erase.mpr ⟨bufOf_ne c s h, hA⟩
  unfold SparseCore.Cfg.ownBufs
  refine (SparseCore.bigSep_erase' (own cc0_scratch0 rfl)).trans ?_
  rw [SparseCore.bigSep_erase' (skip (b' := cc0_scratch0) (by decide) (own cc0_scratch1 rfl)),
    SparseCore.bigSep_erase' (skip (b' := cc0_scratch1) (by decide) (skip (b' := cc0_scratch0) (by decide) (own cc0_scratch2 rfl))),
    SparseCore.bigSep_erase' (skip (b' := cc0_scratch2) (by decide) (skip (b' := cc0_scratch1) (by decide)
      (skip (b' := cc0_scratch0) (by decide) (own cc0_scratch3 rfl)))),
    SparseCore.bigSep_erase' (skip (b' := cc0_scratch3) (by decide) (skip (b' := cc0_scratch2) (by decide)
      (skip (b' := cc0_scratch1) (by decide) (skip (b' := cc0_scratch0) (by decide) (own cc0_scratch4 rfl))))),
    SparseCore.bigSep_erase' (skip (b' := cc0_scratch4) (by decide) (skip (b' := cc0_scratch3) (by decide)
      (skip (b' := cc0_scratch2) (by decide) (skip (b' := cc0_scratch1) (by decide) (skip (b' := cc0_scratch0) (by decide) (own cc0_scratch5 rfl)))))),
    SparseCore.bigSep_erase' (skip (b' := cc0_scratch5) (by decide) (skip (b' := cc0_scratch4) (by decide)
      (skip (b' := cc0_scratch3) (by decide) (skip (b' := cc0_scratch2) (by decide) (skip (b' := cc0_scratch1) (by decide)
        (skip (b' := cc0_scratch0) (by decide) (own cc0_scratch6 rfl)))))))]

end Own

/-! ## A task -/

section Task

variable (d : Dev nD) (i : grid0.Coords) (q : PosShare TreeShare) (kp : S32.Idx → F .f32) (X f : S24576x512.Idx → F .f32)

/-- What a task is given: a share of the keypoints, its chunks of x and its chunks of out. -/
def Given : sProp 𝕄 := iprop(Knots d q kp ∗ XRest d i X 0 ∗ ORest d i f 0)

/-- What a task gives back: the same, every element of its chunks of out at its line's value. -/
def Made : sProp 𝕄 := iprop(Knots d q kp ∗ XDone d i X 16 ∗ ODone d i (outVal kp X) 16)

/-- A task's run, from what the launch gives it to what the launch takes back. -/
theorem task_spec (O : CellTallies nD τ sig (HIx 1)) (W : Waits sig (HIx 1)) (hO : ∀ g, O g none = 0) :
    iprop(levAts (K (F := F)).L (K (F := F)).lev ∗ emp ∗ Given d i q kp X f
        ∗ scopedBufs (thr d i) ∗ scopedSems0 (thr d i) ∗ owes (thr d i) O W)
      ⊢ wp frame (wpE (defs₀ (F := F)) 𝒱₀ (thr d i) none) Set.univ (body i)
          fun _ => iprop(Made d i q kp X ∗ scopedBufs (thr d i) ∗ scopedSems0 (thr d i)
            ∗ ∃ W', ⌜∀ p ∈ W', p ∈ W ∨ p.2 = none⌝ ∗ owes (thr d i) O W') := by
  rw [(K (F := F)).scopedBufs_V facts d ((i 0).castLE hcore0) ((i 1).castLE hsub0),
    SparseCore.Cfg.scopedSems0_V (Val := Elt F) d ((i 0).castLE hcore0) ((i 1).castLE hsub0), ownSems0_task, ownBufs_task]
  unfold Given Made
  iintro ⟨#Hlv, -, ⟨Hk, Hx, Ho⟩, ⟨B0, B1, B2, B3, B4, B5, B6, BR⟩, ⟨S7, S8, S9, S10, S0, SR⟩, HO⟩
  ihave #Hmw := ((K (F := F)).mayWaits_none (thr := thr d i) hO) $$ Hlv
  iapply (wp_wand frame _ _) $$ [Hk Hx Ho B0 B1 B2 B3 B4 B5 B6 S7 S8 S9 S10 S0 HO]
  · iapply (body_spec d i kp X f O W q)
    isplitr; · iexact Hmw
    isplitl [Hk]; · iexact Hk
    isplitl [Hx]; · iexact Hx
    isplitl [Ho]; · iexact Ho
    isplitl [B0]; · unfold Room; iexact B0
    isplitl [B1]; · unfold Room; iexact B1
    isplitl [B2]; · unfold Room; iexact B2
    isplitl [B3]; · unfold Free; iexact B3
    isplitl [B4]; · unfold Free; iexact B4
    isplitl [B5]; · unfold Free; iexact B5
    isplitl [B6]; · unfold Free; iexact B6
    isplitl [S7]; · iexact S7
    isplitl [S8]; · iexact S8
    isplitl [S9]; · iexact S9
    isplitl [S10]; · iexact S10
    isplitl [S0]; · iexact S0
    unfold Owing
    iexists W
    isplitr
    · ipureintro; exact fun p hp => Or.inl hp
    · iexact HO
  iintro %_ ⟨Hk, Hx, Ho, B0, B1, B2, B3, B4, B5, B6, S7, S8, S9, S10, S0, HO⟩
  unfold Room Free Owing
  isplitl [Hk Hx Ho]
  · isplitl [Hk]; · iexact Hk
    isplitl [Hx]; · iexact Hx
    iexact Ho
  isplitl [B0 B1 B2 B3 B4 B5 B6 BR]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact BR
  isplitl [S7 S8 S9 S10 S0 SR]
  · isplitl [S7]; · iexact S7
    isplitl [S8]; · iexact S8
    isplitl [S9]; · iexact S9
    isplitl [S10]; · iexact S10
    isplitl [S0]; · iexact S0
    iexact SR
  iexact HO

instance given_storable : BI.Storable (upEmb : UEmb _ 𝕄) (Given d i q kp X f) := by
  unfold Given XRest ORest Rest; infer_instance

instance made_storable : BI.Storable (upEmb : UEmb _ 𝕄) (Made d i q kp X) := by
  unfold Made XDone ODone Done; infer_instance

end Task

/-! ## The launch -/

/-- A task's coordinates. -/
def coords (c : Fin 2) (s : Fin 16) : grid0.Coords :=
  fun | 0 => c | 1 => s | ⟨_ + 2, h⟩ => absurd h (Nat.not_lt.2 (Nat.le_add_left _ _))

/-- A task's share of the keypoints: a SparseCore's half, dealt to its sixteen tasks. -/
def taskShare (c : Fin 2) (s : Fin 16) : PosShare TreeShare :=
  Transfers.dealOf (Transfers.dealOf fullShare Finset.univ c) Finset.univ s

variable (m : (ℓ : Loc nD τ sig) → Buf (Elt F) ℓ)

/-- The keypoints, x in rows, and what out holds before the call. -/
def knots (d : Dev nD) : S32.Idx → F .f32 := m (kLoc d)
def xRows (d : Dev nD) : S24576x512.Idx → F .f32 :=
  shapeCast S24576x512 (show S16x3x512x512.Idx → F .f32 from m ((SparseCore.T d).loc main_arg0)) shapeCasts_S16x3x512x512_S24576x512
def before (d : Dev nD) : S24576x512.Idx → F .f32 := m (oLoc d)

abbrev given (d : Dev nD) (c : Fin 2) (s : Fin 16) : sProp 𝕄 := Given d (coords c s) (taskShare c s) (knots m d) (xRows m d) (before m d)
abbrev made (d : Dev nD) (c : Fin 2) (s : Fin 16) : sProp 𝕄 := Made d (coords c s) (taskShare c s) (knots m d) (xRows m d)

/-- What the call hands a SparseCore and takes back, and what that hands its tasks and takes back. -/
def P : (K (F := F)).Pay (nD := nD) (Val := Elt F) (Name := ℕ) (U := UU) where
  st := fun q d c => match q with | 0 => bigSep (Finset.univ : Finset (Fin 16)) (given m d c)
  dn := fun q d c => match q with | 0 => bigSep (Finset.univ : Finset (Fin 16)) (made m d c)
  go := fun q d c i => match q with | 0 => given m d c i
  td := fun q d c i => match q with | 0 => made m d c i
  x := fun _ _ => iprop(emp)

instance P_storable : (P (F := F) m).IsStorable where
  st q d c := match q with
    | 0 => (inferInstance : BI.Storable (upEmb : UEmb _ 𝕄) (bigSep (Finset.univ : Finset (Fin 16)) (given m d c)))
  dn q d c := match q with
    | 0 => (inferInstance : BI.Storable (upEmb : UEmb _ 𝕄) (bigSep (Finset.univ : Finset (Fin 16)) (made m d c)))
  go q d c i := match q with
    | 0 => (inferInstance : BI.Storable (upEmb : UEmb _ 𝕄) (given m d c i))
  td q d c i := match q with
    | 0 => (inferInstance : BI.Storable (upEmb : UEmb _ 𝕄) (made m d c i))

/-- A subcore's entry of the body table: the body at its coordinates. -/
theorem defs₀_task (c : Fin τ.nSC) (s : Fin τ.nSub) :
    defs₀ (F := F) (.scVector c s) 0 () = SparseCore.onTile hcore0 hsub0 (fun c s => body (coords c s)) ⟨⟩ c s := rfl

omit [FloatOps F] in
/-- Waits of the task's own are among those a task may record. -/
theorem owes_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right Or.inl
  · iexact HO

/-- Each task does what the launch expects of it. -/
theorem taskObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_task]
  simp only [SparseCore.onTile, hc, and_self, ↓reduceDIte]
  exact (task_spec d (coords ⟨_, hc.1⟩ ⟨_, hc.2⟩) (taskShare c i) (knots m d) (xRows m d) (before m d) O W hO).trans
    (wp_mono frame _ _ fun _ => owes_weaken)

/-- What a SparseCore is handed is what its tasks are handed, and so back. -/
theorem vecSplit : (K (F := F)).VecSplit' (P m) 0 := by
  intro d c
  show bigSep (Finset.univ : Finset (Fin 16)) (given m d c) ⊢ |={Set.univ}=> iprop(bigSep (Finset.univ : Finset (Fin 16)) (given m d c)
    ∗ (bigSep (Finset.univ : Finset (Fin 16)) (made m d c) -∗ bigSep (Finset.univ : Finset (Fin 16)) (made m d c)))
  iintro H; imodintro
  isplitl [H]; · iexact H
  iintro H; iexact H

/-! ## The launch's ghost element -/

/-- The handshakes' rounds, and nothing of the kernel's own. -/
def u₀ : UU := (initOf (K (F := F)).hsCells (K (F := F)).hsToks, 1)

/-- It is the handshakes' element; a device and a thread are given nothing beside it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  have nothing {I : Type} (s : Finset I) : (bigSep s fun _ => iprop(emp)) = (iprop(emp) : sProp 𝕄) := bigSep_emp_const s
  unfold u₀
  iintro Hu
  ihave H := (ownU_pair _ _) $$ Hu
  icases H with ⟨HH, -⟩
  imodintro
  isplitl [HH]; · iexact HH
  isplitr; · rw [nothing]; iempintro
  unfold P; dsimp only
  rw [show (bigSep Finset.univ fun _ : Thread nD τ => bigSep Finset.univ fun _ : Fin 1 => (iprop(emp) : sProp 𝕄)) = iprop(emp) from by
    rw [bigSep_congr fun _ _ => nothing _, nothing]]
  iempintro

end Cert.Proof.Pwl

end
-- ==== Proof.Whole.lean ====
/-
  The three arrays of the call, dealt whole: x and out fall apart into the chunks of the tasks of the SparseCores, the
  keypoints into one share for each task. Each is an equation, so it is read one way before the call and the other
  way after it: what the tasks made is one array, `outVal` of the keypoints and x.
-/
module

public import proofs.«01_k».proof.Proof.Launch

@[expose] public section

noncomputable section

namespace Cert.Proof.Pwl

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## The rows of a SparseCore, of a task, of a chunk -/

/-- The rows of SparseCore `c`, and those of task number `w`. -/
def coreRows (c : Fin 2) : Finset S24576x512.Idx := Finset.univ.filter fun z => (z 0).val / 768 % 2 = c.val
def taskRows (w : ℕ) : Finset S24576x512.Idx := Finset.univ.filter fun z => (z 0).val / 768 = w

theorem mem_coreRows {c : Fin 2} {z : S24576x512.Idx} : z ∈ coreRows c ↔ (z 0).val / 768 % 2 = c.val := by simp [coreRows]
theorem mem_taskRows {w : ℕ} {z : S24576x512.Idx} : z ∈ taskRows w ↔ (z 0).val / 768 = w := by simp [taskRows]
theorem mem_chunk {n : ℕ} {z : S24576x512.Idx} : z ∈ chunk n ↔ (z 0).val / 48 = n := by simp [chunk]

/-- The SparseCores' rows are all the rows, and no row is of two. -/
theorem cores_cover : (Finset.univ : Finset (Fin 2)).biUnion coreRows = Finset.univ := by
  ext z
  simp only [Finset.mem_biUnion, Finset.mem_univ, true_and, iff_true, mem_coreRows]
  exact ⟨⟨(z 0).val / 768 % 2, Nat.mod_lt _ (by decide)⟩, rfl⟩
theorem cores_disjoint : ∀ c ∈ (Finset.univ : Finset (Fin 2)), ∀ c' ∈ (Finset.univ : Finset (Fin 2)), c ≠ c' → Disjoint (coreRows c) (coreRows c') :=
  fun _ _ _ _ h => Finset.disjoint_left.mpr fun _ h1 h2 => h (Fin.ext ((mem_coreRows.mp h1).symm.trans (mem_coreRows.mp h2)))

/-- A SparseCore's rows are its tasks'. -/
theorem tasks_cover (c : Fin 2) : (Finset.univ : Finset (Fin 16)).biUnion (fun s => taskRows (wid (coords c s))) = coreRows c := by
  ext z
  have hz : (z 0).val < 24576 := (z 0).isLt
  have hc := c.isLt
  simp only [Finset.mem_biUnion, Finset.mem_univ, true_and, mem_coreRows, mem_taskRows]
  constructor
  · rintro ⟨s, h⟩
    have h : (z 0).val / 768 = 2 * s.val + c.val := h
    omega
  · intro h
    refine ⟨⟨(z 0).val / 768 / 2, by omega⟩, ?_⟩
    show (z 0).val / 768 = 2 * ((z 0).val / 768 / 2) + c.val
    omega
theorem tasks_disjoint (c : Fin 2) : ∀ s ∈ (Finset.univ : Finset (Fin 16)), ∀ s' ∈ (Finset.univ : Finset (Fin 16)), s ≠ s' →
    Disjoint (taskRows (wid (coords c s))) (taskRows (wid (coords c s'))) :=
  fun s _ s' _ h => Finset.disjoint_left.mpr fun z h1 h2 => h (Fin.ext (by
    have h1 : (z 0).val / 768 = 2 * s.val + c.val := mem_taskRows.mp h1
    have h2 : (z 0).val / 768 = 2 * s'.val + c.val := mem_taskRows.mp h2
    omega))

/-- A task's rows are its sixteen chunks'. -/
theorem chunks_cover (i : grid0.Coords) : (Finset.range 16).biUnion (fun g => chunk (cn i g)) = taskRows (wid i) := by
  ext z
  simp only [Finset.mem_biUnion, Finset.mem_range, mem_chunk, mem_taskRows, cn]
  constructor
  · rintro ⟨g, hg, h⟩; omega
  · intro h
    exact ⟨(z 0).val / 48 % 16, by omega, by omega⟩
theorem chunks_disjoint (i : grid0.Coords) : ∀ g ∈ Finset.range 16, ∀ g' ∈ Finset.range 16, g ≠ g' → Disjoint (chunk (cn i g)) (chunk (cn i g')) :=
  fun _ _ _ _ h => Finset.disjoint_left.mpr fun z h1 h2 => h (by
    have h1 := mem_chunk.mp h1
    have h2 := mem_chunk.mp h2
    unfold cn at h1 h2
    omega)

/-! ## The arrays -/

variable (d : Dev nD)

omit [FloatOps F] in
/-- x whole is the chunks of the tasks of the SparseCores. -/
theorem x_dealt (X : S24576x512.Idx → F .f32) :
    (xLoc d ↦{fullShare} (show S24576x512.Idx → F .f32 from X) : sProp 𝕄)
      = bigSep (Finset.univ : Finset (Fin 2)) fun c => bigSep (Finset.univ : Finset (Fin 16)) fun s => Done (fun g => xChunk d X (cn (coords c s) g)) 16 := by
  refine (Eq.trans (by rw [cores_cover]) (pointsTo_biUnion (ℓ := xLoc d) Finset.univ coreRows cores_disjoint)).trans (bigSep_congr fun c _ => ?_)
  refine (Eq.trans (by rw [tasks_cover]) (pointsTo_biUnion (ℓ := xLoc d) Finset.univ _ (tasks_disjoint c))).trans (bigSep_congr fun s _ => ?_)
  exact Eq.trans (by rw [chunks_cover]) (pointsTo_biUnion (ℓ := xLoc d) (Finset.range 16) _ (chunks_disjoint (coords c s)))

omit [FloatOps F] in
/-- Out whole is the chunks of the tasks of the SparseCores. -/
theorem out_dealt (f : S24576x512.Idx → F .f32) :
    (oLoc d ↦{fullShare} (show S24576x512.Idx → F .f32 from f) : sProp 𝕄)
      = bigSep (Finset.univ : Finset (Fin 2)) fun c => bigSep (Finset.univ : Finset (Fin 16)) fun s => Done (fun g => oChunk d f (cn (coords c s) g)) 16 := by
  refine (Eq.trans (by rw [cores_cover]) (pointsTo_biUnion (ℓ := oLoc d) Finset.univ coreRows cores_disjoint)).trans (bigSep_congr fun c _ => ?_)
  refine (Eq.trans (by rw [tasks_cover]) (pointsTo_biUnion (ℓ := oLoc d) Finset.univ _ (tasks_disjoint c))).trans (bigSep_congr fun s _ => ?_)
  exact Eq.trans (by rw [chunks_cover]) (pointsTo_biUnion (ℓ := oLoc d) (Finset.range 16) _ (chunks_disjoint (coords c s)))

omit [FloatOps F] in
/-- The keypoints whole are a share of them for each task. -/
theorem knots_dealt (kp : S32.Idx → F .f32) :
    (kLoc d ↦{fullShare} (show S32.Idx → F .f32 from kp) : sProp 𝕄)
      = bigSep (Finset.univ : Finset (Fin 2)) fun c => bigSep (Finset.univ : Finset (Fin 16)) fun s => Knots d (taskShare c s) kp := by
  refine (Transfers.pointsTo_deal (ℓ := kLoc d) (Finset.univ : Finset (Fin 2)) Finset.univ_nonempty fullShare).trans (bigSep_congr fun c _ => ?_)
  exact Transfers.pointsTo_deal (ℓ := kLoc d) (Finset.univ : Finset (Fin 16)) Finset.univ_nonempty _

/-! ## What the call takes and what it hands back -/

variable (m : (ℓ : Loc nD τ sig) → Buf (Elt F) ℓ)

/-- The three arrays, out holding `f`. -/
abbrev Arrays (f : S24576x512.Idx → F .f32) : sProp 𝕄 :=
  iprop((kLoc d ↦{fullShare} (show S32.Idx → F .f32 from knots m d)) ∗ (xLoc d ↦{fullShare} (show S24576x512.Idx → F .f32 from xRows m d))
    ∗ oLoc d ↦{fullShare} (show S24576x512.Idx → F .f32 from f))

omit [FloatOps F] in
/-- Three things for each task are three lists over the tasks. -/
theorem three (A B C : Fin 2 → Fin 16 → sProp 𝕄) :
    (bigSep (Finset.univ : Finset (Fin 2)) fun c => bigSep (Finset.univ : Finset (Fin 16)) fun s => iprop(A c s ∗ B c s ∗ C c s))
      = iprop((bigSep (Finset.univ : Finset (Fin 2)) fun c => bigSep (Finset.univ : Finset (Fin 16)) (A c))
          ∗ (bigSep (Finset.univ : Finset (Fin 2)) fun c => bigSep (Finset.univ : Finset (Fin 16)) (B c))
          ∗ bigSep (Finset.univ : Finset (Fin 2)) fun c => bigSep (Finset.univ : Finset (Fin 16)) (C c)) := by
  rw [← bigSep_sep', ← bigSep_sep']
  refine bigSep_congr fun c _ => ?_
  rw [← bigSep_sep', ← bigSep_sep']

/-- The call takes the three arrays. -/
theorem taken : (bigSep Finset.univ fun c : Fin ((K (F := F)).nCore 0) => (P m).st 0 d c) = Arrays d m (before m d) := by
  rw [Arrays, knots_dealt, x_dealt, out_dealt, ← three]
  show (bigSep (Finset.univ : Finset (Fin 2)) fun c => bigSep (Finset.univ : Finset (Fin 16)) (given m d c)) = _
  refine bigSep_congr fun c _ => bigSep_congr fun s _ => ?_
  rw [given, Given, XRest, ORest, rest_all, rest_all]
  rfl

/-- It hands them back, out holding its values. -/
theorem handed : (bigSep Finset.univ fun c : Fin ((K (F := F)).nCore 0) => (P m).dn 0 d c) = Arrays d m (outVal (knots m d) (xRows m d)) := by
  rw [Arrays, knots_dealt, x_dealt, out_dealt, ← three]
  rfl

end Cert.Proof.Pwl

end
-- ==== Proof.Main.lean ====
/-
  The program's run: x put in rows, the call, its result put back in x's shape. The run ends with the result at
  `result m`, the two arguments as they were, and every semaphore at zero; for any float values.
-/
module

public import proofs.«01_k».proof.Proof.Whole

@[expose] public section

noncomputable section

namespace Cert.Proof.Pwl

open Cert.KernelIdeal Cert.KernelIdeal.Gen
open Idealize.ShloMosaic
open Idealize.ShloMosaic.SparseCore (S V)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (m : (ℓ : Loc nD τ sig) → Buf (Elt F) ℓ) (ρ : Dev nD → PrngReg)

/-- The first argument and the result, as locations of a device. -/
abbrev argLoc (d : Dev nD) : Loc nD τ sig := (SparseCore.T d).loc main_arg0
abbrev resLoc (d : Dev nD) : Loc nD τ sig := (SparseCore.T d).loc main_v2

/-- What the kernel returns: every element of x at its segment's line, in x's shape. -/
def result (d : Dev nD) : S16x3x512x512.Idx → F .f32 :=
  shapeCast S16x3x512x512 (outVal (knots m d) (xRows m d)) shapeCasts_S24576x512_S16x3x512x512

/-! ## The arrays of @main -/

abbrev arg0' : DevRef τ sig := Proc.devRef .tc (main_arg0 : Ref sig .tc)
abbrev arg1' : DevRef τ sig := Proc.devRef .tc (main_arg1 : Ref sig .tc)
abbrev rows' : DevRef τ sig := Proc.devRef .tc (main_v0 : Ref sig .tc)
abbrev out' : DevRef τ sig := Proc.devRef .tc (main_v1 : Ref sig .tc)
abbrev res' : DevRef τ sig := Proc.devRef .tc (main_v2 : Ref sig .tc)

/-- The five of them. -/
abbrev five : Finset (DevRef τ sig) := {arg0', arg1', rows', out', res'}

omit [FloatOps F] in
theorem held_five (d : Dev nD) (W : Valuation τ sig (Elt F)) :
    (held (SparseCore.T d) five W : sProp 𝕄)
      = iprop((argLoc d ↦{fullShare} W arg0') ∗ (kLoc d ↦{fullShare} W arg1') ∗ (xLoc d ↦{fullShare} W rows')
          ∗ (oLoc d ↦{fullShare} W out') ∗ resLoc d ↦{fullShare} W res') := by
  unfold held five
  rw [SparseCore.bigSep_insert' (by decide), SparseCore.bigSep_insert' (by decide), SparseCore.bigSep_insert' (by decide),
    SparseCore.bigSep_insert' (by decide), bigSep_singleton]

/-- Their contents at the start, once x is in rows, after the call, and at the end. -/
abbrev toRows : HloOp τ sig (Elt F) := StableHlo.reshape main_arg0 main_v0 (rfl : (.f32 : EltTy) = .f32) shapeCasts_S16x3x512x512_S24576x512
abbrev toShape : HloOp τ sig (Elt F) := StableHlo.reshape main_v1 main_v2 (rfl : (.f32 : EltTy) = .f32) shapeCasts_S24576x512_S16x3x512x512

def val₀ (d : Dev nD) : Valuation τ sig (Elt F) := fun b => m (d, b)
abbrev val₁ (d : Dev nD) : Valuation τ sig (Elt F) := (toRows (F := F)).result (val₀ m d)
def val₂ (d : Dev nD) : Valuation τ sig (Elt F) := Function.update (val₁ m d) out' (show S24576x512.Idx → F .f32 from outVal (knots m d) (xRows m d))
abbrev val₃ (d : Dev nD) : Valuation τ sig (Elt F) := (toShape (F := F)).result (val₂ m d)

omit [FloatOps F] in
theorem unscoped_five (d : Dev nD) : (unscopedBufs d (fun b => m ((SparseCore.T d).loc b)) : sProp 𝕄) = held (SparseCore.T d) five (val₀ m d) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton, held_five]
  rfl

omit [FloatOps F] in
/-- Putting x in rows writes the rows alone. -/
theorem val₁_of_ne (d : Dev nD) {b : DevRef τ sig} (h : b ∉ ({rows'} : Finset (DevRef τ sig))) : val₁ m d b = m (d, b) :=
  (toRows (F := F)).result_of_not_mem (val₀ m d) h
omit [FloatOps F] in
theorem val₁_rows (d : Dev nD) : val₁ m d rows' = (show S24576x512.Idx → F .f32 from xRows m d) :=
  (StableHlo.reshape_result main_arg0 main_v0 rfl shapeCasts_S16x3x512x512_S24576x512 ⟨by decide, rfl⟩ ⟨by decide, rfl⟩ (val₀ m d)).trans rfl

/-- The call changes out alone. -/
theorem val₂_of_ne (d : Dev nD) {b : DevRef τ sig} (h : b ≠ out') : val₂ m d b = val₁ m d b := Function.update_of_ne h _ _
theorem val₂_out (d : Dev nD) : val₂ m d out' = (show S24576x512.Idx → F .f32 from outVal (knots m d) (xRows m d)) := Function.update_self _ _ _

/-- The last step writes the result alone. -/
theorem val₃_of_ne (d : Dev nD) {b : DevRef τ sig} (h : b ∉ ({res'} : Finset (DevRef τ sig))) : val₃ m d b = val₂ m d b :=
  (toShape (F := F)).result_of_not_mem (val₂ m d) h
theorem val₃_res (d : Dev nD) : val₃ m d res' = (show S16x3x512x512.Idx → F .f32 from result m d) := by
  refine (StableHlo.reshape_result main_v1 main_v2 rfl shapeCasts_S24576x512_S16x3x512x512 ⟨by decide, rfl⟩ ⟨by decide, rfl⟩ (val₂ m d)).trans ?_
  rw [val₂_out]
  rfl

/-! ## @main -/

theorem toRows_bufs : (toRows (F := F)).bufs ⊆ five := show ({arg0', rows'} : Finset (DevRef τ sig)) ⊆ five by decide
theorem toShape_bufs : (toShape (F := F)).bufs ⊆ five := show ({out', res'} : Finset (DevRef τ sig)) ⊆ five by decide

/-- What @main leaves: the arguments as they were, and the result. -/
abbrev FIN (d : Dev nD) : sProp 𝕄 :=
  iprop((argLoc d ↦{fullShare} m (argLoc d)) ∗ (kLoc d ↦{fullShare} m (kLoc d)) ∗ resLoc d ↦{fullShare} (show S16x3x512x512.Idx → F .f32 from result m d))

/-- The arrays once x is in rows: the call's three, the argument and the result's. -/
theorem at_call (d : Dev nD) :
    (held (SparseCore.T d) five (val₁ m d) : sProp 𝕄) ⊢ iprop((argLoc d ↦{fullShare} m (argLoc d)) ∗ (resLoc d ↦{fullShare} m (resLoc d)) ∗ Arrays d m (before m d)) := by
  rw [held_five, val₁_rows, val₁_of_ne m d (b := arg0') (by decide), val₁_of_ne m d (b := arg1') (by decide),
    val₁_of_ne m d (b := out') (by decide), val₁_of_ne m d (b := res') (by decide)]
  iintro ⟨Ha, Hk, Hx, Ho, Hr⟩
  isplitl [Ha]; · iexact Ha
  isplitl [Hr]; · iexact Hr
  isplitl [Hk]; · iexact Hk
  isplitl [Hx]; · iexact Hx
  iexact Ho

/-- And after the call. -/
theorem after_call (d : Dev nD) :
    iprop((argLoc d ↦{fullShare} m (argLoc d)) ∗ (resLoc d ↦{fullShare} m (resLoc d)) ∗ Arrays d m (outVal (knots m d) (xRows m d)))
      ⊢ (held (SparseCore.T d) five (val₂ m d) : sProp 𝕄) := by
  rw [held_five, val₂_out, val₂_of_ne m d (b := arg0') (by decide), val₂_of_ne m d (b := arg1') (by decide),
    val₂_of_ne m d (b := rows') (by decide), val₂_of_ne m d (b := res') (by decide), val₁_rows, val₁_of_ne m d (b := arg0') (by decide),
    val₁_of_ne m d (b := arg1') (by decide), val₁_of_ne m d (b := res') (by decide)]
  iintro ⟨Ha, Hr, Hk, Hx, Ho⟩
  isplitl [Ha]; · iexact Ha
  isplitl [Hk]; · iexact Hk
  isplitl [Hx]; · iexact Hx
  isplitl [Ho]; · iexact Ho
  iexact Hr

/-- And at the end. -/
theorem at_end (d : Dev nD) : (held (SparseCore.T d) five (val₃ m d) : sProp 𝕄) ⊢ FIN m d := by
  rw [held_five, val₃_res, val₃_of_ne m d (b := arg0') (by decide), val₃_of_ne m d (b := arg1') (by decide),
    val₂_of_ne m d (b := arg0') (by decide), val₂_of_ne m d (b := arg1') (by decide), val₁_of_ne m d (b := arg0') (by decide),
    val₁_of_ne m d (b := arg1') (by decide)]
  iintro ⟨Ha, Hk, -, -, Hr⟩
  isplitl [Ha]; · iexact Ha
  isplitl [Hk]; · iexact Hk
  iexact Hr

/-- @main on a device's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_five]
  simp only [main, wp_bind, wp_pure]
  iintro ⟨#Hctx, Hst, ⟨Hb, Hheld, Hts, -⟩, -⟩
  iapply (wp_hlo_within 𝒱 (SparseCore.T d) none Set.univ (op := toRows) (S := five) toRows_bufs (V := val₀ m d)) $$ [Hb Hheld]
  · isplitl [Hb]; · iexact Hb
    iexact Hheld
  iintro ⟨Hb, Hheld⟩
  rw [wp_ret]; imodintro
  ihave Hh := (at_call m d) $$ Hheld
  icases Hh with ⟨Ha, Hr, Hcall⟩
  iapply ((K (F := F)).wp_run (D (F := F)) 𝒱 (EH := EH) (P := P m) κ d 0) $$ [Hst Ha Hr Hcall Hb Hts]
  isplitr; · iexact Hctx
  isplitl [Hst]; · iexact Hst
  isplitl [Hcall]; · rw [taken]; iexact Hcall
  iintro ⟨Hst, Hdn⟩
  ihave Hdn := (Entails.of_eq (handed d m)) $$ Hdn
  iapply (wp_hlo_within 𝒱 (SparseCore.T d) none Set.univ (op := toShape) (S := five) toShape_bufs (V := val₂ m d)) $$ [Hb Ha Hr Hdn]
  · isplitl [Hb]; · iexact Hb
    iapply (after_call m d)
    isplitl [Ha]; · iexact Ha
    isplitl [Hr]; · iexact Hr
    iexact Hdn
  iintro ⟨Hb, Hheld⟩
  ihave Hf := (at_end m d) $$ Hheld
  rw [wp_ret]; imodintro; imodintro
  isplitl [Hst]; · iexact Hst
  isplitl [Hf]; · iexact Hf
  isplitl [Hb] <;> iassumption

/-! ## The run -/

/-- What holds of a device's arrays at the end. -/
def Kept (d : Dev nD) (s : (ℓ : Loc nD τ sig) → Buf (Elt F) ℓ) : Prop :=
  s (resLoc d) = (show S16x3x512x512.Idx → F .f32 from result m d) ∧ s (argLoc d) = m (argLoc d) ∧ s (kLoc d) = m (kLoc d)

theorem hfin (d : Dev nD) (s' : Phys nD τ sig (Elt F)) : iprop(FIN m d ∗ SI s') ⊢ (⌜Kept m d s'.mem.mem⌝ : sProp 𝕄) := by
  iintro ⟨⟨Ha, Hk, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%h1, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%h2, HSI, -⟩
  ihave H := (SI_pointsTo_agree (st := s') (ℓ := resLoc d) (I := Finset.univ) (q := fullShare)
    (f := (show S16x3x512x512.Idx → F .f32 from result m d))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- The final states the run reaches. -/
def QC : PUnit × MemSt nD τ sig (Elt F) → Prop := fun r => (∀ c : Dev nD, Kept m c r.2.mem) ∧ r.2.sem = fun _ => 0

/-- The program runs from any launch, faultless, to the result, the arguments kept, and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => taskObl m)
    (fun q _ => match q with | 0 => SparseCore.Cfg.VecSplit.of_plain (vecSplit m))
    m ρ main (fun _ => iprop(emp)) (FIN m) (u₀ (F := F)) (sep_elim_left.trans (hu₀ m)) (hmain m ρ) (fun d s => Kept m d s.mem.mem) (hfin m) (QC m)
    (fun _ h hz => ⟨h, hz⟩)

end Cert.Proof.Pwl

end
-- ==== Proof.RefValue.lean ====
/-
  The reference's value, element by element: its two reads of the keypoints at a word array whose words all lie
  below 32 are plain reads at those words (the test for a word outside the table never fires, a word is never
  negative, and the gather's own clamp changes nothing); for any float values.
-/
module

public import proofs.«01_k».proof.Proof.Chunks
public import proofs.«01_k».proof.Proof.Gen.ReferenceIdeal.Run
public import Idealize.ShloMosaic.Lib.ReduceAll
public import Idealize.ShloMosaic.Lib.StableHlo.Predicate

@[expose] public section

noncomputable section

namespace Cert.Proof.Pwl

open Cert.ReferenceIdeal Cert.ReferenceIdeal.Gen
open Idealize.ShloMosaic

variable {F : FTy → Type} [FloatOps F]

/-! ## The reference's parts, as functions of its arguments -/

/-- A constant float in every place of x's shape. -/
abbrev allF (b : BitVec 32) : FVec F S16x3x512x512 .f32 :=
  broadcastInDim S16x3x512x512 ![] bcast_S_S16x3x512x512 (constant S_ .f32 b)

/-- A constant word in every place of x's shape. -/
abbrev allW (b : BitVec 32) : IVec S16x3x512x512 32 :=
  broadcastInDim S16x3x512x512 ![] bcast_S_S16x3x512x512 (constantI S_ 32 b)

/-- The segments' numbers: 31 times x held inside the interval, rounded down. -/
def refSeg (x : FVec F S16x3x512x512 .f32) : IVec S16x3x512x512 32 :=
  fptosi 32 (Host.floor (mulf (minimumf (allF 0x3F7FFFEF#32) (maximumf (allF 0x358637BD#32) x)) (allF 0x41F80000#32)))

/-- A negative number counts from the table's end. -/
def wrapped (j : IVec S16x3x512x512 32) : IVec S16x3x512x512 32 := select (cmpi .slt j (allW 0#32)) (addi j (allW 32#32)) j

/-- The numbers with a last axis of one place, the gather's form. -/
def column (j : IVec S16x3x512x512 32) : IVec S16x3x512x512x1 32 :=
  broadcastInDim S16x3x512x512x1 ![0, 1, 2, 3] bcast_S16x3x512x512_S16x3x512x512x1_0_1_2_3 (wrapped j)

/-- Per place and number: does the number lie in the table? -/
def inTable (j : IVec S16x3x512x512 32) : IVec S16x3x512x512x1 1 :=
  andi (cmpi .sge (column j) (broadcastInDim S16x3x512x512x1 ![] bcast_S_S16x3x512x512x1 (constantI S_ 32 0#32)))
    (cmpi .sle (column j) (broadcastInDim S16x3x512x512x1 ![0, 1, 2, 3, 4] bcast_S1x1x1x1x1_S16x3x512x512x1_0_1_2_3_4
      (broadcastInDim S1x1x1x1x1 ![4] bcast_S1_S1x1x1x1x1_4 (constantI S1 32 31#32))))

/-- The keypoints at the numbers `j`. -/
def taken32 (kp : FVec F S32 .f32) (j : IVec S16x3x512x512 32) : FVec F S16x3x512x512 .f32 :=
  select (Host.reduce IntOp.andi (inTable j) (constantI S_ 1 1#1) reducesTo_S16x3x512x512x1_S16x3x512x512_d4 h_S_)
    (Host.gather gather_S32_S16x3x512x512x1_S16x3x512x512_n_0_n_n_0_4_1 kp (column j)) (allF 0x7FC00000#32)

/-- How far into its segment each element lies. -/
def refPart (x : FVec F S16x3x512x512 .f32) : FVec F S16x3x512x512 .f32 :=
  subf (mulf x (allF 0x41F80000#32)) (sitofp .f32 (refSeg x))

/-- The reference's result. -/
def refVal (x : FVec F S16x3x512x512 .f32) (kp : FVec F S32 .f32) : FVec F S16x3x512x512 .f32 :=
  addf (mulf (taken32 kp (refSeg x)) (subf (allF 0x3F800000#32) (refPart x)))
    (mulf (taken32 kp (addi (refSeg x) (allW 1#32))) (refPart x))

/-- The run's result is that function of the two arguments. -/
theorem res_eq (m : (ℓ : Loc nD τ sig) → Buf (Elt F) ℓ) (c : Dev nD) :
    Cert.ReferenceIdeal.Value.res_main_v17 m c
      = refVal (m ((c.tc : Thread nD τ).loc main_arg0)) (m ((c.tc : Thread nD τ).loc main_arg1)) := rfl

/-! ## The reads -/

/-- A place of x with the last axis of one place. -/
def ext1 (z : S16x3x512x512.Idx) : S16x3x512x512x1.Idx := fun b =>
  match b with
  | ⟨0, _⟩ => z 0
  | ⟨1, _⟩ => z 1
  | ⟨2, _⟩ => z 2
  | ⟨3, _⟩ => z 3
  | ⟨4, _⟩ => (0 : Fin 1)

/-- The gather reads the keypoint its number names, the number read signed and held to the table. -/
theorem gather_at (kp : FVec F S32 .f32) (idx : IVec S16x3x512x512x1 32) (z : S16x3x512x512.Idx) :
    Host.gather gather_S32_S16x3x512x512x1_S16x3x512x512_n_0_n_n_0_4_1 kp idx z
      = knot kp (idx (ext1 z)).toInt.toNat := by
  set d := gather_S32_S16x3x512x512x1_S16x3x512x512_n_0_n_n_0_4_1 with hd
  unfold Host.gather knot
  congr 1
  funext a
  have ha : a = (0 : Fin 1) := Subsingleton.elim _ _
  subst ha
  apply Fin.ext
  have hb : (0 : Fin 1) ∉ d.operandBatchingDims := List.not_mem_nil
  have hk : (0 : Fin 1) ∉ d.sKept := by rw [GatherDims.mem_sKept]; simp [hd, gather_S32_S16x3x512x512x1_S16x3x512x512_n_0_n_n_0_4_1]
  have hm : (0 : Fin 1) ∈ d.startIndexMap := List.mem_singleton.mpr rfl
  simp only [GatherDims.operandIdx, GatherDims.batchCoord_eq_zero _ _ _ hb, GatherDims.offCoord_eq_zero _ _ _ hk,
    Nat.add_zero, GatherDims.start, dif_pos hm]
  show min (idx _).toInt.toNat 31 = min (idx (ext1 z)).toInt.toNat 31
  congr 4
  funext b
  match b with
  | ⟨0, _⟩ => rfl
  | ⟨1, _⟩ => rfl
  | ⟨2, _⟩ => rfl
  | ⟨3, _⟩ => rfl
  | ⟨4, _⟩ => rfl

theorem select_at {α : Type} {s : Shape} (c : IVec s 1) (a b : s.Idx → α) (z : s.Idx) :
    select c a b z = if c z = 1#1 then a z else b z := rfl

/-- A word below 32 is not negative, so it does not count from the end. -/
theorem wrapped_at (j : IVec S16x3x512x512 32) (z : S16x3x512x512.Idx) (h : (j z).toNat < 32) : wrapped j z = j z := by
  show (if IntOp.cmpi .slt (j z) 0#32 = 1#1 then _ else j z) = j z
  have hn : ¬ (j z).toInt < 0 := by rw [BitVec.toInt_eq_toNat_cond]; split_ifs <;> omega
  rw [if_neg]
  simp [IntOp.cmpi, BitVec.slt, hn]

theorem column_at (j : IVec S16x3x512x512 32) (h : ∀ z, (j z).toNat < 32) (i : S16x3x512x512x1.Idx) :
    (column j i).toNat < 32 := by
  show (wrapped j _).toNat < 32
  rw [wrapped_at j _ (h _)]; exact h _

theorem column_ext1 (j : IVec S16x3x512x512 32) (z : S16x3x512x512.Idx) : column j (ext1 z) = wrapped j z := by
  show wrapped j _ = wrapped j z
  congr 1
  funext a
  fin_cases a <;> rfl

/-- Numbers all below 32 lie in the table. -/
theorem inTable_at (j : IVec S16x3x512x512 32) (h : ∀ z, (j z).toNat < 32) (i : S16x3x512x512x1.Idx) : inTable j i = 1#1 := by
  have hw := column_at j h i
  show IntOp.andi (IntOp.cmpi .sge (column j i) 0#32) (IntOp.cmpi .sle (column j i) 31#32) = 1#1
  generalize column j i = w at hw
  have hi : w.toInt = w.toNat := by rw [BitVec.toInt_eq_toNat_cond]; split_ifs <;> omega
  have h31 : (31#32 : BitVec 32).toInt = 31 := by decide
  have h0 : (0#32 : BitVec 32).toInt = 0 := by decide
  have e1 : IntOp.cmpi .sge w 0#32 = 1#1 := by simp [IntOp.cmpi, BitVec.sle, hi]
  have e2 : IntOp.cmpi .sle w 31#32 = 1#1 := by
    have : (w.toNat : ℤ) ≤ 31 := by omega
    simp [IntOp.cmpi, BitVec.sle, hi, h31, this]
  rw [e1, e2]; rfl

/-- At numbers all below 32, the reference's read is the keypoint itself. -/
theorem taken32_at (kp : FVec F S32 .f32) (j : IVec S16x3x512x512 32) (h : ∀ z, (j z).toNat < 32) (z : S16x3x512x512.Idx) :
    taken32 kp j z = knot kp (j z).toNat := by
  unfold taken32
  rw [select_at, if_pos (Host.reduce_andi_one _ _ _ _ z rfl (inTable_at j h)), gather_at, column_ext1, wrapped_at j z (h z)]
  have hz := h z
  congr 1
  rw [BitVec.toInt_eq_toNat_cond]; split_ifs <;> omega

theorem allF_at (b : BitVec 32) (z : S16x3x512x512.Idx) : allF (F := F) b z = FloatOps.ofBits .f32 b := rfl

theorem refPart_at (x : FVec F S16x3x512x512 .f32) (z : S16x3x512x512.Idx) :
    refPart x z = FloatOps.subf (FloatOps.mulf (x z) (FloatOps.ofBits .f32 0x41F80000#32)) (FloatOps.sitofp .f32 (refSeg x z)) := rfl

/-- One more than a number. -/
theorem next_at (j : IVec S16x3x512x512 32) (z : S16x3x512x512.Idx) : addi j (allW 1#32) z = j z + 1#32 := rfl

/-- An element of the reference's result: two keypoints, mixed by how far into its segment the element lies. -/
theorem refVal_at (x : FVec F S16x3x512x512 .f32) (kp : FVec F S32 .f32) (z : S16x3x512x512.Idx) :
    refVal x kp z
      = FloatOps.addf (FloatOps.mulf (taken32 kp (refSeg x) z) (FloatOps.subf (FloatOps.ofBits .f32 0x3F800000#32) (refPart x z)))
        (FloatOps.mulf (taken32 kp (addi (refSeg x) (allW 1#32)) z) (refPart x z)) := rfl

end Cert.Proof.Pwl

end
-- ==== Proof.Equation.lean ====
/-
  At exact arithmetic with every argument finite, the kernel's line and the reference's mix of two keypoints are one
  number. The two segment numbers agree: inside the interval both round 31 x down, and outside both end at segment 0
  or 30. In that segment both formulas are the same straight line.
-/
module

public import proofs.«01_k».proof.Proof.RefValue
public import proofs.«01_k».proof.Pre_finite
public import Idealize.ShloMosaic.PureOps.Ideal
public import Idealize.ShloMosaic.Lib.IdealHost

@[expose] public section

noncomputable section

namespace Cert.Proof.Pwl

open Cert.ReferenceIdeal Cert.ReferenceIdeal.Gen
open Idealize.ShloMosaic

/-! ## The constants -/

theorem real31 : Ideal.ofBits .f32 0x41F80000#32 = ((31 : ℝ) : EReal) := by
  simp [Ideal.ofBits, Ideal.ieee, -EReal.coe_mul]; norm_num

/-- The interval's lower end. -/
theorem realLow : Ideal.ofBits .f32 0x358637BD#32 = ((8796093 / 2 ^ 43 : ℝ) : EReal) := by
  simp [Ideal.ofBits, Ideal.ieee, -EReal.coe_mul]; norm_num

/-- The interval's upper end. -/
theorem realHigh : Ideal.ofBits .f32 0x3F7FFFEF#32 = ((16777199 / 2 ^ 24 : ℝ) : EReal) := by
  simp [Ideal.ofBits, Ideal.ieee, -EReal.coe_mul]; norm_num

theorem realTop : Ideal.ofBits .f32 0x7F800000#32 = ⊤ := by
  simp [Ideal.ofBits, Ideal.ieee]

/-! ## The segment numbers -/

/-- A real rounded to a word, read back: toward zero, held to the words' range. -/
theorem fptosi_toInt (r : ℝ) :
    (Ideal.fptosi 32 ((r : ℝ) : EReal)).toInt = max (-2147483648) (min 2147483647 (if 0 ≤ r then ⌊r⌋ else ⌈r⌉)) := by
  unfold Ideal.fptosi
  rw [Ideal.toIntClamped_coe]
  generalize (if 0 ≤ r then ⌊r⌋ else ⌈r⌉) = k
  rw [BitVec.toInt_ofInt]
  norm_num [Int.bmod]
  split_ifs <;> omega

/-- The kernel's segment number of a real. -/
theorem seg_real (r : ℝ) :
    (seg (F := Ideal) ((r : ℝ) : EReal)).toInt
      = min 30 (max 0 (max (-2147483648) (min 2147483647 (if 0 ≤ r * 31 then ⌊r * 31⌋ else ⌈r * 31⌉)))) := by
  rw [seg_toInt]
  show min 30 (max 0 (Ideal.fptosi 32 (((r : ℝ) : EReal) * Ideal.ofBits .f32 0x41F80000#32)).toInt) = _
  rw [real31, ← EReal.coe_mul, fptosi_toInt]

/-- A real held inside the interval. -/
def held (r : ℝ) : ℝ := min (16777199 / 2 ^ 24) (max (8796093 / 2 ^ 43) r)

/-- The reference's segment number of a real. -/
theorem refSeg_real (x : FVec Ideal S16x3x512x512 .f32) (z : S16x3x512x512.Idx) (r : ℝ) (h : x z = ((r : ℝ) : EReal)) :
    (refSeg x z).toInt = max (-2147483648) (min 2147483647 (if (0 : ℝ) ≤ (⌊held r * 31⌋ : ℝ) then ⌊held r * 31⌋ else ⌊held r * 31⌋)) := by
  show (Ideal.fptosi 32 (Ideal.liftRound Int.floor (min (Ideal.ofBits .f32 0x3F7FFFEF#32)
    (max (Ideal.ofBits .f32 0x358637BD#32) (x z)) * Ideal.ofBits .f32 0x41F80000#32))).toInt = _
  have e : min (((16777199 / 2 ^ 24 : ℝ) : ℝ) : EReal) (max (((8796093 / 2 ^ 43 : ℝ) : ℝ) : EReal) ((r : ℝ) : EReal)) = ((held r : ℝ) : EReal) := by
    unfold held
    rw [EReal.coe_strictMono.monotone.map_min, EReal.coe_strictMono.monotone.map_max]
  rw [h, real31, realLow, realHigh, e, ← EReal.coe_mul, Ideal.liftRound_coe, fptosi_toInt, Int.floor_intCast, Int.ceil_intCast]

/-- The two segment numbers of a finite element are one. -/
theorem refSeg_eq (x : FVec Ideal S16x3x512x512 .f32) (z : S16x3x512x512.Idx) (r : ℝ) (h : x z = ((r : ℝ) : EReal)) :
    refSeg x z = seg (F := Ideal) ((r : ℝ) : EReal) := by
  apply BitVec.eq_of_toInt_eq
  rw [refSeg_real x z r h, seg_real, ite_self]
  by_cases hl : r ≤ 8796093 / 2 ^ 43
  · have hh : held r = 8796093 / 2 ^ 43 := by unfold held; rw [max_eq_left hl, min_eq_right (by norm_num)]
    have hf : ⌊held r * 31⌋ = 0 := by rw [hh, Int.floor_eq_iff]; norm_num
    have hk : (if 0 ≤ r * 31 then ⌊r * 31⌋ else ⌈r * 31⌉) ≤ 0 := by
      split_ifs with h0
      · have : ⌊r * 31⌋ < 1 := by rw [Int.floor_lt]; push_cast; linarith
        omega
      · rw [Int.ceil_le]; push_cast; linarith
    rw [hf]; generalize (if 0 ≤ r * 31 then ⌊r * 31⌋ else ⌈r * 31⌉) = k at hk; omega
  · by_cases hu : 16777199 / 2 ^ 24 ≤ r
    · have hh : held r = 16777199 / 2 ^ 24 := by unfold held; rw [max_eq_right (by linarith), min_eq_left hu]
      have hf : ⌊held r * 31⌋ = 30 := by rw [hh, Int.floor_eq_iff]; norm_num
      have h0 : 0 ≤ r * 31 := by linarith
      have hk : 30 ≤ ⌊r * 31⌋ := by rw [Int.le_floor]; push_cast; linarith
      rw [hf, if_pos h0]; omega
    · have hh : held r = r := by unfold held; rw [max_eq_right (by linarith), min_eq_right (by linarith)]
      have h0 : 0 ≤ r * 31 := by linarith
      have hk0 : 0 ≤ ⌊r * 31⌋ := Int.floor_nonneg.mpr h0
      have hk : ⌊r * 31⌋ < 31 := by rw [Int.floor_lt]; push_cast; linarith
      rw [hh, if_pos h0]; omega

/-! ## Finite arguments -/

/-- A number whose size lies below infinity is a real. -/
theorem real_of_abs {y : EReal} (h : Ideal.cmp .olt (max y (-y)) (Ideal.ofBits .f32 0x7F800000#32) = 1#1) : ∃ r : ℝ, y = ((r : ℝ) : EReal) := by
  rw [realTop] at h
  have h' : max y (-y) < ⊤ := by
    by_contra hn
    simp [Ideal.cmp, hn] at h
  have ht : y ≠ ⊤ := fun e => by rw [e] at h'; simp at h'
  have hb : y ≠ ⊥ := fun e => by rw [e] at h'; simp at h'
  exact ⟨y.toReal, (EReal.coe_toReal ht hb).symm⟩

section
variable [Cert.Pre_finite.Facts]

/-- Under the precondition every element of x and every keypoint is a real. -/
theorem real_args (x : FVec Ideal S16x3x512x512 .f32) (kp : FVec Ideal S32 .f32) (h : Cert.Pre_finite.fn x kp = fun _ => 1#1) :
    (∀ z, ∃ r : ℝ, x z = ((r : ℝ) : EReal)) ∧ ∀ n, ∃ r : ℝ, knot (F := Ideal) kp n = ((r : ℝ) : EReal) := by
  have h1 := congrFun h (Shape.Idx.first Cert.Pre_finite.Facts.h_S_)
  unfold Cert.Pre_finite.fn at h1
  have h2 := IntOp.andi_eq_one.mp h1
  exact ⟨fun z => real_of_abs (Host.reduce_andi_all _ _ _ _ _ h2.1 z),
    fun n => real_of_abs (Host.reduce_andi_all _ _ _ _ _ h2.2 _)⟩

end

/-! ## The equation -/

/-- The two formulas of one segment are one line. -/
theorem line_mix (a b r : ℝ) (n : ℕ) :
    ((a : ℝ) : EReal) - (((n : ℤ) : ℝ) : EReal) * ((b : ℝ) - (a : ℝ) : EReal) + ((b : ℝ) - (a : ℝ) : EReal) * ((31 : ℝ) : EReal) * ((r : ℝ) : EReal)
      = ((a : ℝ) : EReal) * (((1 : ℝ) : EReal) - (((r : ℝ) : EReal) * ((31 : ℝ) : EReal) - (((n : ℤ) : ℝ) : EReal)))
        + ((b : ℝ) : EReal) * (((r : ℝ) : EReal) * ((31 : ℝ) : EReal) - (((n : ℤ) : ℝ) : EReal)) := by
  simp only [← EReal.coe_mul, ← EReal.coe_add, ← EReal.coe_sub]
  congr 1
  push_cast
  ring

/-- The kernel's value of a real, its segment and keypoints known. -/
theorem lineVal_real (kp : FVec Ideal S32 .f32) (r a b : ℝ) (n : ℕ) (hn : n < 31) (hs : (seg (F := Ideal) ((r : ℝ) : EReal)).toNat = n)
    (ha : knot (F := Ideal) kp n = ((a : ℝ) : EReal)) (hb : knot (F := Ideal) kp (n + 1) = ((b : ℝ) : EReal)) :
    lineVal (F := Ideal) kp ((r : ℝ) : EReal)
      = ((a : ℝ) : EReal) - (((n : ℤ) : ℝ) : EReal) * ((b : ℝ) - (a : ℝ) : EReal) + ((b : ℝ) - (a : ℝ) : EReal) * ((31 : ℝ) : EReal) * ((r : ℝ) : EReal) := by
  have hi : (BitVec.ofNat 32 n).toInt = n := by
    rw [BitVec.toInt_eq_toNat_cond, BitVec.toNat_ofNat]; split_ifs <;> omega
  have hc : FloatOps.sitofp (F := Ideal) .f32 (BitVec.ofNat 32 n) = (((n : ℤ) : ℝ) : EReal) :=
    (Ideal.scalar_sitofp_def _).trans (by rw [hi])
  have h31 : Scalar.ofBits (F := Ideal) .f32 0x41F80000#32 = ((31 : ℝ) : EReal) := real31
  unfold lineVal interAt slopeAt stepAt
  rw [hs, ha, hb, hc, h31]
  simp only [Ideal.addf_def, Ideal.subf_def, Ideal.mulf_def]

/-- The reference's value of an element, its segment and keypoints known. -/
theorem refVal_real (x : FVec Ideal S16x3x512x512 .f32) (kp : FVec Ideal S32 .f32) (z : S16x3x512x512.Idx) (r a b : ℝ) (n : ℕ)
    (hr : x z = ((r : ℝ) : EReal)) (hlt : ∀ z, (refSeg x z).toNat < 31) (hs : (refSeg x z).toNat = n)
    (ha : knot (F := Ideal) kp n = ((a : ℝ) : EReal)) (hb : knot (F := Ideal) kp (n + 1) = ((b : ℝ) : EReal)) :
    refVal x kp z
      = ((a : ℝ) : EReal) * (((1 : ℝ) : EReal) - (((r : ℝ) : EReal) * ((31 : ℝ) : EReal) - (((n : ℤ) : ℝ) : EReal)))
        + ((b : ℝ) : EReal) * (((r : ℝ) : EReal) * ((31 : ℝ) : EReal) - (((n : ℤ) : ℝ) : EReal)) := by
  have hn1 : ∀ z, (addi (refSeg x) (allW 1#32) z).toNat = (refSeg x z).toNat + 1 := fun z => by
    have := hlt z
    rw [next_at, BitVec.toNat_add]; simp; omega
  have hi : (refSeg x z).toInt = n := by
    have := hlt z
    rw [BitVec.toInt_eq_toNat_cond, hs]; split_ifs <;> omega
  have hc : FloatOps.sitofp (F := Ideal) .f32 (refSeg x z) = (((n : ℤ) : ℝ) : EReal) :=
    (Ideal.scalar_sitofp_def _).trans (by rw [hi])
  have h31 : FloatOps.ofBits (F := Ideal) .f32 0x41F80000#32 = ((31 : ℝ) : EReal) := real31
  have h1 : FloatOps.ofBits (F := Ideal) .f32 0x3F800000#32 = ((1 : ℝ) : EReal) := Ideal.ofBits_one_f32.trans EReal.coe_one.symm
  rw [refVal_at, taken32_at kp _ (fun z => (hlt z).trans (by decide)), taken32_at kp _ (fun z => by rw [hn1 z]; have := hlt z; omega),
    hn1 z, refPart_at, hs, ha, hb, hc, hr, h31, h1]
  simp only [Ideal.addf_def, Ideal.subf_def, Ideal.mulf_def]

/-- The kernel's value of each element is the reference's. -/
theorem lineVal_eq (x : FVec Ideal S16x3x512x512 .f32) (kp : FVec Ideal S32 .f32) (hx : ∀ z, ∃ r : ℝ, x z = ((r : ℝ) : EReal))
    (hk : ∀ n, ∃ r : ℝ, knot (F := Ideal) kp n = ((r : ℝ) : EReal)) (z : S16x3x512x512.Idx) :
    lineVal (F := Ideal) kp (x z) = refVal x kp z := by
  have hs : ∀ z, refSeg x z = seg (F := Ideal) (x z) := fun z => by
    obtain ⟨r, hr⟩ := hx z
    rw [refSeg_eq x z r hr, hr]
  have hlt : ∀ z, (refSeg x z).toNat < 31 := fun z => by rw [hs z]; exact seg_lt _
  obtain ⟨r, hr⟩ := hx z
  obtain ⟨a, ha⟩ := hk (refSeg x z).toNat
  obtain ⟨b, hb⟩ := hk ((refSeg x z).toNat + 1)
  rw [refVal_real x kp z r a b _ hr hlt rfl ha hb, hr,
    lineVal_real kp r a b (refSeg x z).toNat (hlt z) (by rw [hs z, hr]) ha hb, line_mix]

end Cert.Proof.Pwl

end
-- ==== Proof.Compare.lean ====
/-
  The kernel's result array against the reference's: element by element, x read through the kernel's rows is x itself.
-/
module

public import proofs.«01_k».proof.Proof.Main
public import proofs.«01_k».proof.Proof.Equation

@[expose] public section

noncomputable section

namespace Cert.Proof.Pwl

open Cert.KernelIdeal Cert.KernelIdeal.Gen
open Idealize.ShloMosaic Idealize.SL.Sem

/-- Put in rows and taken back, each element of the result is its own element's line; for any float values. -/
theorem result_at {F : FTy → Type} [FloatOps F] (m : (ℓ : Loc nD τ sig) → Buf (Elt F) ℓ) (d : Dev nD) (z : S16x3x512x512.Idx) :
    result m d z = lineVal (m (kLoc d) : S32.Idx → F .f32) ((m (argLoc d) : S16x3x512x512.Idx → F .f32) z) := by
  unfold result knots xRows outVal shapeCast
  show lineVal _ ((m (argLoc d) : S16x3x512x512.Idx → F .f32) (Shape.reshapeEquiv _ (Shape.reshapeEquiv _ z))) = _
  rw [Shape.reshapeEquiv_reshapeEquiv, Shape.reshapeEquiv_self]

/-- The result is the reference's function of the two arguments, where the precondition holds. -/
theorem result_eq [Cert.Pre_finite.Facts] (m : (ℓ : Loc nD τ sig) → Buf (Elt Ideal) ℓ) (d : Dev nD)
    (h : Cert.Pre_finite.fn (F := Ideal) (m (argLoc d)) (m (kLoc d)) = fun _ => 1#1) :
    result m d = refVal (F := Ideal) (m (argLoc d)) (m (kLoc d)) := by
  obtain ⟨hx, hk⟩ := real_args _ _ h
  funext z
  rw [result_at]
  exact lineVal_eq _ _ hx hk z

end Cert.Proof.Pwl

end
-- ==== Proof.lean ====
/-
  The certificate's claim, put together. The kernel's run (Proof/Main.lean) holds at any float values, so it gives the
  frames of the program at both of its float types; the reference's run is its list of host operations; the equation
  of the two results is Proof/Compare.lean's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite
public import proofs.«01_k».proof.Proof.Compare
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.Kernel.defs _ _).mono (fun _ h => ⟨fun c => (h.1 c).2, h.2⟩) (Pwl.run_main (F := Bits) m ρ)

theorem frame_kernelIdeal : Cert.quiescent_KernelIdeal := fun m ρ _ =>
  (θ_run Cert.KernelIdeal.defs _ _).mono (fun _ h => ⟨fun c => (h.1 c).2, h.2⟩) (Pwl.run_main (F := Ideal) m ρ)

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result is the reference's, at exact arithmetic, for finite arguments. -/
theorem same : Cert.algebraic_KernelIdeal_ReferenceIdeal_pre_finite := fun m ρ m' ρ' hp hag =>
  ⟨Pwl.result m,
    (θ_run Cert.KernelIdeal.defs _ _).mono (fun _ h => h.1) (Pwl.run_main (F := Ideal) m ρ),
    (θ_run Cert.ReferenceIdeal.defs _ _).mono
      (fun r h c => ⟨by
        rw [(h c).1, Pwl.res_eq, (hag c).1, (hag c).2]
        exact (Pwl.result_eq m c (hp c)).symm, (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite.Gen.facts,
    frame_kernel, frame_kernelIdeal, fun m g _ => frame_kernelIdeal m g trivial, frame_reference,
    fun m g _ => frame_reference m g trivial, trivial, same⟩

end Cert.Proof

end
